-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_features_nondegenerate [hPre_features_nondegenerate : Cert.Pre_features_nondegenerate.Facts] (m : (ℓ : Loc Cert.KernelIdeal.nD Cert.KernelIdeal.τ Cert.KernelIdeal.sig) → Buf (Elt Ideal) ℓ) : Prop :=
  ∀ c : Dev Cert.KernelIdeal.nD,
    (Cert.Pre_features_nondegenerate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_features_nondegenerate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_features_nondegenerate [hPre_features_nondegenerate : Cert.Pre_features_nondegenerate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_features_nondegenerate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_features_nondegenerate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_features_nondegenerate [hKernelIdeal : Cert.KernelIdeal.Facts] [hPre_features_nondegenerate : Cert.Pre_features_nondegenerate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_features_nondegenerate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_features_nondegenerate [hReferenceIdeal : Cert.ReferenceIdeal.Facts] [hPre_features_nondegenerate : Cert.Pre_features_nondegenerate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_features_nondegenerate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "inv36" .f32 0x3CE38E39#32 ((1 / 36 : ℝ) : EReal)

def algebraic_KernelIdeal_ReferenceIdeal_pre_features_nondegenerate [hKernelIdeal : Cert.KernelIdeal.Facts] [hReferenceIdeal : Cert.ReferenceIdeal.Facts] [hPre_features_nondegenerate : Cert.Pre_features_nondegenerate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_features_nondegenerate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_features_nondegenerate : Cert.Pre_features_nondegenerate.Facts),
    quiescent_Kernel (hKernel := hKernel)
    ∧ quiescent_KernelIdeal (hKernelIdeal := hKernelIdeal)
    ∧ quiescent_KernelIdeal_pre_features_nondegenerate (hKernelIdeal := hKernelIdeal) (hPre_features_nondegenerate := hPre_features_nondegenerate)
    ∧ quiescent_ReferenceIdeal (hReferenceIdeal := hReferenceIdeal)
    ∧ quiescent_ReferenceIdeal_pre_features_nondegenerate (hReferenceIdeal := hReferenceIdeal) (hPre_features_nondegenerate := hPre_features_nondegenerate)
    ∧ preserves_Kernel_KernelIdeal
    ∧ algebraic_KernelIdeal_ReferenceIdeal_pre_features_nondegenerate (hKernelIdeal := hKernelIdeal) (hReferenceIdeal := hReferenceIdeal) (hPre_features_nondegenerate := hPre_features_nondegenerate)
-- ==== Pre_features_nondegenerate.lean ====
abbrev S16x576x384 : Shape := ⟨3, ![16, 576, 384]⟩
abbrev S384 : Shape := ⟨1, ![384]⟩
abbrev S192x384 : Shape := ⟨2, ![192, 384]⟩
abbrev S192 : Shape := ⟨1, ![192]⟩
abbrev S1 : Shape := ⟨1, ![1]⟩
abbrev S384x192 : Shape := ⟨2, ![384, 192]⟩
abbrev S1536x384 : Shape := ⟨2, ![1536, 384]⟩
abbrev S1536 : Shape := ⟨1, ![1536]⟩
abbrev S384x1536 : Shape := ⟨2, ![384, 1536]⟩
abbrev S_ : Shape := ⟨0, ![]⟩
abbrev S16x576 : Shape := ⟨2, ![16, 576]⟩
abbrev S16x576x1 : Shape := ⟨3, ![16, 576, 1]⟩
abbrev S1x1x384 : Shape := ⟨3, ![1, 1, 384]⟩
abbrev S16x24x24x384 : Shape := ⟨4, ![16, 24, 24, 384]⟩
abbrev S16x384x24x24 : Shape := ⟨4, ![16, 384, 24, 24]⟩
abbrev S192x16x24x24 : Shape := ⟨4, ![192, 16, 24, 24]⟩
abbrev S16x192x24x24 : Shape := ⟨4, ![16, 192, 24, 24]⟩
abbrev S1x192x1x1 : Shape := ⟨4, ![1, 192, 1, 1]⟩
abbrev S16x8x24x24x24 : Shape := ⟨5, ![16, 8, 24, 24, 24]⟩
abbrev S128x24x24x24 : Shape := ⟨4, ![128, 24, 24, 24]⟩
abbrev S128x24x4x6x4x6 : Shape := ⟨6, ![128, 24, 4, 6, 4, 6]⟩
abbrev S128x24x4x4 : Shape := ⟨4, ![128, 24, 4, 4]⟩
abbrev S128x24x16 : Shape := ⟨3, ![128, 24, 16]⟩
abbrev S128x16x24 : Shape := ⟨3, ![128, 16, 24]⟩
abbrev S128x24x576 : Shape := ⟨3, ![128, 24, 576]⟩
abbrev S128x576x24 : Shape := ⟨3, ![128, 576, 24]⟩
abbrev S128x576 : Shape := ⟨2, ![128, 576]⟩
abbrev S128x16 : Shape := ⟨2, ![128, 16]⟩

class Facts : Prop where
  reducesTo_S16x576x384_S16x576_d2 : S16x576x384.ReducesTo [2] S16x576
  h_S_ : 0 < S_.numel
  bcast_S16x576_S16x576x1_0_1 : S16x576.BroadcastsInDim S16x576x1 (![0, 1] : Fin 2 → Fin S16x576x1.rank)
  bcast_S_S16x576x1 : S_.BroadcastsInDim S16x576x1 (![] : Fin 0 → Fin S16x576x1.rank)
  bcast_S16x576x1_S16x576x384_0_1_2 : S16x576x1.BroadcastsInDim S16x576x384 (![0, 1, 2] : Fin 3 → Fin S16x576x384.rank)
  bcast_S384_S1x1x384_2 : S384.BroadcastsInDim S1x1x384 (![2] : Fin 1 → Fin S1x1x384.rank)
  bcast_S1x1x384_S16x576x384_0_1_2 : S1x1x384.BroadcastsInDim S16x576x384 (![0, 1, 2] : Fin 3 → Fin S16x576x384.rank)
  shapeCasts_S16x576x384_S16x24x24x384 : S16x576x384.ShapeCasts S16x24x24x384
  transposes_S16x24x24x384_S16x384x24x24_0_3_1_2 : S16x24x24x384.Transposes [0, 3, 1, 2] S16x384x24x24
  transposes_S192x16x24x24_S16x192x24x24_1_0_2_3 : S192x16x24x24.Transposes [1, 0, 2, 3] S16x192x24x24
  bcast_S192_S1x192x1x1_1 : S192.BroadcastsInDim S1x192x1x1 (![1] : Fin 1 → Fin S1x192x1x1.rank)
  bcast_S1x192x1x1_S16x192x24x24_0_1_2_3 : S1x192x1x1.BroadcastsInDim S16x192x24x24 (![0, 1, 2, 3] : Fin 4 → Fin S16x192x24x24.rank)
  shapeCasts_S16x192x24x24_S16x8x24x24x24 : S16x192x24x24.ShapeCasts S16x8x24x24x24
  shapeCasts_S16x8x24x24x24_S128x24x24x24 : S16x8x24x24x24.ShapeCasts S128x24x24x24
  shapeCasts_S128x24x24x24_S128x24x4x6x4x6 : S128x24x24x24.ShapeCasts S128x24x4x6x4x6
  reducesTo_S128x24x4x6x4x6_S128x24x4x4_d3_5 : S128x24x4x6x4x6.ReducesTo [3, 5] S128x24x4x4
  bcast_S_S128x24x4x4 : S_.BroadcastsInDim S128x24x4x4 (![] : Fin 0 → Fin S128x24x4x4.rank)
  shapeCasts_S128x24x4x4_S128x24x16 : S128x24x4x4.ShapeCasts S128x24x16
  transposes_S128x24x16_S128x16x24_0_2_1 : S128x24x16.Transposes [0, 2, 1] S128x16x24
  shapeCasts_S128x24x24x24_S128x24x576 : S128x24x24x24.ShapeCasts S128x24x576
  transposes_S128x24x576_S128x576x24_0_2_1 : S128x24x576.Transposes [0, 2, 1] S128x576x24
  reducesTo_S128x576x24_S128x576_d2 : S128x576x24.ReducesTo [2] S128x576
  reducesTo_S128x16x24_S128x16_d2 : S128x16x24.ReducesTo [2] S128x16
  bcast_S_S128x576 : S_.BroadcastsInDim S128x576 (![] : Fin 0 → Fin S128x576.rank)
  bcast_S_S128x16 : S_.BroadcastsInDim S128x16 (![] : Fin 0 → Fin S128x16.rank)
  dot_S192x384_S16x384x24x24_S192x16x24x24_1_1_0_023_n_n_wf : DotDims.WF S192x384 S16x384x24x24 S192x16x24x24 [1] [1] [0] [0, 2, 3] [] []

variable [Facts]

def dot_S192x384_S16x384x24x24_S192x16x24x24_1_1_0_023_n_n : DotDims S192x384 S16x384x24x24 S192x16x24x24 where
  lhsContracting := [1]
  rhsContracting := [1]
  lhsNonContracting := [0]
  rhsNonContracting := [0, 2, 3]
  lhsBatch := []
  rhsBatch := []
  wf := dot_S192x384_S16x384x24x24_S192x16x24x24_1_1_0_023_n_n_wf
def fn_part2 {F : FTy → Type} [FloatOps F] (main_v38 : FVec F S128x16x24 .f32) (main_v40 : FVec F S128x576x24 .f32) : IVec S128x576 1 × IVec S128x16 1 :=
  let main_v41 : FVec F S128x576x24 .f32 := mulf main_v40 main_v40
  let main_cst_6 : FVec F S_ .f32 := constant S_ .f32 0x00000000#32
  let main_v42 : FVec F S128x576 .f32 := (fun x v => Host.reduceAdd x v reducesTo_S128x576x24_S128x576_d2 h_S_) main_v41 main_cst_6
  let main_v43 : FVec F S128x16x24 .f32 := mulf main_v38 main_v38
  let main_cst_7 : FVec F S_ .f32 := constant S_ .f32 0x00000000#32
  let main_v44 : FVec F S128x16 .f32 := (fun x v => Host.reduceAdd x v reducesTo_S128x16x24_S128x16_d2 h_S_) main_v43 main_cst_7
  let main_cst_8 : FVec F S_ .f32 := constant S_ .f32 0x179ABE15#32
  let main_v45 : FVec F S128x576 .f32 := broadcastInDim S128x576 ![] bcast_S_S128x576 main_cst_8
  let main_v46 : IVec S128x576 1 := cmpf .oge main_v42 main_v45
  let main_cst_9 : FVec F S_ .f32 := constant S_ .f32 0x7F800000#32
  let main_v47 : FVec F S128x576 .f32 := broadcastInDim S128x576 ![] bcast_S_S128x576 main_cst_9
  let main_v48 : IVec S128x576 1 := cmpf .olt main_v42 main_v47
  let main_v49 : IVec S128x576 1 := andi main_v46 main_v48
  let main_cst_10 : FVec F S_ .f32 := constant S_ .f32 0x179ABE15#32
  let main_v50 : FVec F S128x16 .f32 := broadcastInDim S128x16 ![] bcast_S_S128x16 main_cst_10
  let main_v51 : IVec S128x16 1 := cmpf .oge main_v44 main_v50
  (main_v49, main_v51)

def fn_part1 {F : FTy → Type} [FloatOps F] (main_arg2 : FVec F S384 .f32) (main_arg5 : FVec F S192x384 .f32) (main_arg6 : FVec F S192 .f32) (main_v17 : FVec F S16x576x384 .f32) (main_v18 : FVec F S1x1x384 .f32) : IVec S128x576 1 × IVec S128x16 1 :=
  let main_v19 : FVec F S16x576x384 .f32 := broadcastInDim S16x576x384 ![0, 1, 2] bcast_S1x1x384_S16x576x384_0_1_2 main_v18
  let main_v20 : FVec F S16x576x384 .f32 := mulf main_v17 main_v19
  let main_v21 : FVec F S1x1x384 .f32 := broadcastInDim S1x1x384 ![2] bcast_S384_S1x1x384_2 main_arg2
  let main_v22 : FVec F S16x576x384 .f32 := broadcastInDim S16x576x384 ![0, 1, 2] bcast_S1x1x384_S16x576x384_0_1_2 main_v21
  let main_v23 : FVec F S16x576x384 .f32 := addf main_v20 main_v22
  let main_v24 : FVec F S16x24x24x384 .f32 := shapeCast S16x24x24x384 main_v23 shapeCasts_S16x576x384_S16x24x24x384
  let main_v25 : FVec F S16x384x24x24 .f32 := (transpose S16x384x24x24 [0, 3, 1, 2] · transposes_S16x24x24x384_S16x384x24x24_0_3_1_2) main_v24
  let main_v26 : FVec F S192x16x24x24 .f32 := (fun l r => Host.dotGeneral dot_S192x384_S16x384x24x24_S192x16x24x24_1_1_0_023_n_n none l r) main_arg5 main_v25
  let main_v27 : FVec F S16x192x24x24 .f32 := (transpose S16x192x24x24 [1, 0, 2, 3] · transposes_S192x16x24x24_S16x192x24x24_1_0_2_3) main_v26
  let main_v28 : FVec F S1x192x1x1 .f32 := broadcastInDim S1x192x1x1 ![1] bcast_S192_S1x192x1x1_1 main_arg6
  let main_v29 : FVec F S16x192x24x24 .f32 := broadcastInDim S16x192x24x24 ![0, 1, 2, 3] bcast_S1x192x1x1_S16x192x24x24_0_1_2_3 main_v28
  let main_v30 : FVec F S16x192x24x24 .f32 := addf main_v27 main_v29
  let main_v31 : FVec F S16x8x24x24x24 .f32 := shapeCast S16x8x24x24x24 main_v30 shapeCasts_S16x192x24x24_S16x8x24x24x24
  let main_v32 : FVec F S128x24x24x24 .f32 := shapeCast S128x24x24x24 main_v31 shapeCasts_S16x8x24x24x24_S128x24x24x24
  let main_v33 : FVec F S128x24x4x6x4x6 .f32 := shapeCast S128x24x4x6x4x6 main_v32 shapeCasts_S128x24x24x24_S128x24x4x6x4x6
  let main_cst_4 : FVec F S_ .f32 := constant S_ .f32 0x00000000#32
  let main_v34 : FVec F S128x24x4x4 .f32 := (fun x v => Host.reduceAdd x v reducesTo_S128x24x4x6x4x6_S128x24x4x4_d3_5 h_S_) main_v33 main_cst_4
  let main_cst_5 : FVec F S_ .f32 := constant S_ .f32 0x42100000#32
  let main_v35 : FVec F S128x24x4x4 .f32 := broadcastInDim S128x24x4x4 ![] bcast_S_S128x24x4x4 main_cst_5
  let main_v36 : FVec F S128x24x4x4 .f32 := Host.divf main_v34 main_v35
  let main_v37 : FVec F S128x24x16 .f32 := shapeCast S128x24x16 main_v36 shapeCasts_S128x24x4x4_S128x24x16
  let main_v38 : FVec F S128x16x24 .f32 := (transpose S128x16x24 [0, 2, 1] · transposes_S128x24x16_S128x16x24_0_2_1) main_v37
  let main_v39 : FVec F S128x24x576 .f32 := shapeCast S128x24x576 main_v32 shapeCasts_S128x24x24x24_S128x24x576
  let main_v40 : FVec F S128x576x24 .f32 := (transpose S128x576x24 [0, 2, 1] · transposes_S128x24x576_S128x576x24_0_2_1) main_v39
  fn_part2 (F := F) main_v38 main_v40

def fn {F : FTy → Type} [FloatOps F] (main_arg0 : FVec F S16x576x384 .f32) (main_arg1 : FVec F S384 .f32) (main_arg2 : FVec F S384 .f32) (main_arg3 : FVec F S384 .f32) (main_arg4 : FVec F S384 .f32) (main_arg5 : FVec F S192x384 .f32) (main_arg6 : FVec F S192 .f32) (main_arg7 : FVec F S192x384 .f32) (main_arg8 : FVec F S192 .f32) (main_arg9 : FVec F S1 .f32) (main_arg10 : FVec F S1 .f32) (main_arg11 : FVec F S384x192 .f32) (main_arg12 : FVec F S384 .f32) (main_arg13 : FVec F S1536x384 .f32) (main_arg14 : FVec F S1536 .f32) (main_arg15 : FVec F S384x1536 .f32) (main_arg16 : FVec F S384 .f32) : IVec S128x576 1 × IVec S128x16 1 :=
  let main_cst : FVec F S_ .f32 := constant S_ .f32 0x00000000#32
  let main_v0 : FVec F S16x576 .f32 := (fun x v => Host.reduceAdd x v reducesTo_S16x576x384_S16x576_d2 h_S_) main_arg0 main_cst
  let main_v1 : FVec F S16x576x1 .f32 := broadcastInDim S16x576x1 ![0, 1] bcast_S16x576_S16x576x1_0_1 main_v0
  let main_cst_0 : FVec F S_ .f32 := constant S_ .f32 0x43C00000#32
  let main_v2 : FVec F S16x576x1 .f32 := broadcastInDim S16x576x1 ![] bcast_S_S16x576x1 main_cst_0
  let main_v3 : FVec F S16x576x1 .f32 := Host.divf main_v1 main_v2
  let main_v4 : FVec F S16x576x384 .f32 := broadcastInDim S16x576x384 ![0, 1, 2] bcast_S16x576x1_S16x576x384_0_1_2 main_v3
  let main_v5 : FVec F S16x576x384 .f32 := subf main_arg0 main_v4
  let main_v6 : FVec F S16x576x384 .f32 := mulf main_v5 main_v5
  let main_cst_1 : FVec F S_ .f32 := constant S_ .f32 0x00000000#32
  let main_v7 : FVec F S16x576 .f32 := (fun x v => Host.reduceAdd x v reducesTo_S16x576x384_S16x576_d2 h_S_) main_v6 main_cst_1
  let main_v8 : FVec F S16x576x1 .f32 := broadcastInDim S16x576x1 ![0, 1] bcast_S16x576_S16x576x1_0_1 main_v7
  let main_cst_2 : FVec F S_ .f32 := constant S_ .f32 0x43C00000#32
  let main_v9 : FVec F S16x576x1 .f32 := broadcastInDim S16x576x1 ![] bcast_S_S16x576x1 main_cst_2
  let main_v10 : FVec F S16x576x1 .f32 := Host.divf main_v8 main_v9
  let main_v11 : FVec F S16x576x384 .f32 := broadcastInDim S16x576x384 ![0, 1, 2] bcast_S16x576x1_S16x576x384_0_1_2 main_v3
  let main_v12 : FVec F S16x576x384 .f32 := subf main_arg0 main_v11
  let main_cst_3 : FVec F S_ .f32 := constant S_ .f32 0x3727C5AC#32
  let main_v13 : FVec F S16x576x1 .f32 := broadcastInDim S16x576x1 ![] bcast_S_S16x576x1 main_cst_3
  let main_v14 : FVec F S16x576x1 .f32 := addf main_v10 main_v13
  let main_v15 : FVec F S16x576x1 .f32 := Host.sqrt main_v14
  let main_v16 : FVec F S16x576x384 .f32 := broadcastInDim S16x576x384 ![0, 1, 2] bcast_S16x576x1_S16x576x384_0_1_2 main_v15
  let main_v17 : FVec F S16x576x384 .f32 := Host.divf main_v12 main_v16
  let main_v18 : FVec F S1x1x384 .f32 := broadcastInDim S1x1x384 ![2] bcast_S384_S1x1x384_2 main_arg1
  fn_part1 (F := F) main_arg2 main_arg5 main_arg6 main_v17 main_v18
-- ==== Kernel.lean ====
abbrev S16x576x384 : Shape := ⟨3, ![16, 576, 384]⟩
abbrev S384 : Shape := ⟨1, ![384]⟩
abbrev S192x384 : Shape := ⟨2, ![192, 384]⟩
abbrev S192 : Shape := ⟨1, ![192]⟩
abbrev S1 : Shape := ⟨1, ![1]⟩
abbrev S384x192 : Shape := ⟨2, ![384, 192]⟩
abbrev S1536x384 : Shape := ⟨2, ![1536, 384]⟩
abbrev S1536 : Shape := ⟨1, ![1536]⟩
abbrev S384x1536 : Shape := ⟨2, ![384, 1536]⟩
abbrev S1x384 : Shape := ⟨2, ![1, 384]⟩
abbrev S1x192 : Shape := ⟨2, ![1, 192]⟩
abbrev S1x1 : Shape := ⟨2, ![1, 1]⟩
abbrev S1x1536 : Shape := ⟨2, ![1, 1536]⟩
abbrev S4x576x384 : Shape := ⟨3, ![4, 576, 384]⟩
abbrev S16x576 : Shape := ⟨2, ![16, 576]⟩
abbrev S192x192 : Shape := ⟨2, ![192, 192]⟩
abbrev S128x192 : Shape := ⟨2, ![128, 192]⟩
abbrev S8x16x576 : Shape := ⟨3, ![8, 16, 576]⟩
abbrev S2304x384 : Shape := ⟨2, ![2304, 384]⟩
abbrev S2304 : Shape := ⟨1, ![2304]⟩
abbrev S2304x1 : Shape := ⟨2, ![2304, 1]⟩
abbrev S2304x192 : Shape := ⟨2, ![2304, 192]⟩
abbrev S576x192 : Shape := ⟨2, ![576, 192]⟩
abbrev S16x192 : Shape := ⟨2, ![16, 192]⟩
abbrev S128x576 : Shape := ⟨2, ![128, 576]⟩
abbrev S8x576 : Shape := ⟨2, ![8, 576]⟩
abbrev S8x1x576 : Shape := ⟨3, ![8, 1, 576]⟩
abbrev S8x16 : Shape := ⟨2, ![8, 16]⟩
abbrev S128x1 : Shape := ⟨2, ![128, 1]⟩
abbrev S2304x1536 : Shape := ⟨2, ![2304, 1536]⟩

abbrev nBuf : Space → Nat
  | .hbm => 29
  | .vmem => 20
  | .smem => 0
  | _ => 0

abbrev bufTy : (tb : Table) → Fin (tcTables nBuf tb) → BufTy
  | .hbm, ⟨0, _⟩ => ⟨S16x576x384, .f32⟩
  | .hbm, ⟨1, _⟩ => ⟨S384, .f32⟩
  | .hbm, ⟨2, _⟩ => ⟨S384, .f32⟩
  | .hbm, ⟨3, _⟩ => ⟨S384, .f32⟩
  | .hbm, ⟨4, _⟩ => ⟨S384, .f32⟩
  | .hbm, ⟨5, _⟩ => ⟨S192x384, .f32⟩
  | .hbm, ⟨6, _⟩ => ⟨S192, .f32⟩
  | .hbm, ⟨7, _⟩ => ⟨S192x384, .f32⟩
  | .hbm, ⟨8, _⟩ => ⟨S192, .f32⟩
  | .hbm, ⟨9, _⟩ => ⟨S1, .f32⟩
  | .hbm, ⟨10, _⟩ => ⟨S1, .f32⟩
  | .hbm, ⟨11, _⟩ => ⟨S384x192, .f32⟩
  | .hbm, ⟨12, _⟩ => ⟨S384, .f32⟩
  | .hbm, ⟨13, _⟩ => ⟨S1536x384, .f32⟩
  | .hbm, ⟨14, _⟩ => ⟨S1536, .f32⟩
  | .hbm, ⟨15, _⟩ => ⟨S384x1536, .f32⟩
  | .hbm, ⟨16, _⟩ => ⟨S384, .f32⟩
  | .hbm, ⟨17, _⟩ => ⟨S1x384, .f32⟩
  | .hbm, ⟨18, _⟩ => ⟨S1x384, .f32⟩
  | .hbm, ⟨19, _⟩ => ⟨S1x384, .f32⟩
  | .hbm, ⟨20, _⟩ => ⟨S1x384, .f32⟩
  | .hbm, ⟨21, _⟩ => ⟨S1x192, .f32⟩
  | .hbm, ⟨22, _⟩ => ⟨S1x192, .f32⟩
  | .hbm, ⟨23, _⟩ => ⟨S1x1, .f32⟩
  | .hbm, ⟨24, _⟩ => ⟨S1x1, .f32⟩
  | .hbm, ⟨25, _⟩ => ⟨S1x384, .f32⟩
  | .hbm, ⟨26, _⟩ => ⟨S1x1536, .f32⟩
  | .hbm, ⟨27, _⟩ => ⟨S1x384, .f32⟩
  | .hbm, ⟨28, _⟩ => ⟨S16x576x384, .f32⟩
  | .local _ .vmem, ⟨0, _⟩ => ⟨S4x576x384, .f32⟩
  | .local _ .vmem, ⟨1, _⟩ => ⟨S4x576x384, .f32⟩
  | .local _ .vmem, ⟨2, _⟩ => ⟨S1x384, .f32⟩
  | .local _ .vmem, ⟨3, _⟩ => ⟨S1x384, .f32⟩
  | .local _ .vmem, ⟨4, _⟩ => ⟨S1x384, .f32⟩
  | .local _ .vmem, ⟨5, _⟩ => ⟨S1x384, .f32⟩
  | .local _ .vmem, ⟨6, _⟩ => ⟨S192x384, .f32⟩
  | .local _ .vmem, ⟨7, _⟩ => ⟨S1x192, .f32⟩
  | .local _ .vmem, ⟨8, _⟩ => ⟨S192x384, .f32⟩
  | .local _ .vmem, ⟨9, _⟩ => ⟨S1x192, .f32⟩
  | .local _ .vmem, ⟨10, _⟩ => ⟨S1x1, .f32⟩
  | .local _ .vmem, ⟨11, _⟩ => ⟨S1x1, .f32⟩
  | .local _ .vmem, ⟨12, _⟩ => ⟨S384x192, .f32⟩
  | .local _ .vmem, ⟨13, _⟩ => ⟨S1x384, .f32⟩
  | .local _ .vmem, ⟨14, _⟩ => ⟨S1536x384, .f32⟩
  | .local _ .vmem, ⟨15, _⟩ => ⟨S1x1536, .f32⟩
  | .local _ .vmem, ⟨16, _⟩ => ⟨S384x1536, .f32⟩
  | .local _ .vmem, ⟨17, _⟩ => ⟨S1x384, .f32⟩
  | .local _ .vmem, ⟨18, _⟩ => ⟨S4x576x384, .f32⟩
  | .local _ .vmem, ⟨19, _⟩ => ⟨S4x576x384, .f32⟩
  | _, _ => ⟨S16x576x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v0 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x576x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1536x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S384x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S4x576x384 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
variable {F : FTy → Type} [FloatOps F] [Named F]
def κ : String → Option EReal := fun
  | "inv36" => some ((1 / 36 : ℝ) : EReal)
  | _ => none
-- ==== ReferenceIdeal.lean ====
abbrev S16x576x384 : Shape := ⟨3, ![16, 576, 384]⟩
abbrev S384 : Shape := ⟨1, ![384]⟩
abbrev S192x384 : Shape := ⟨2, ![192, 384]⟩
abbrev S192 : Shape := ⟨1, ![192]⟩
abbrev S1 : Shape := ⟨1, ![1]⟩
abbrev S384x192 : Shape := ⟨2, ![384, 192]⟩
abbrev S1536x384 : Shape := ⟨2, ![1536, 384]⟩
abbrev S1536 : Shape := ⟨1, ![1536]⟩
abbrev S384x1536 : Shape := ⟨2, ![384, 1536]⟩
abbrev S_ : Shape := ⟨0, ![]⟩
abbrev S16x576 : Shape := ⟨2, ![16, 576]⟩
abbrev S16x576x1 : Shape := ⟨3, ![16, 576, 1]⟩
abbrev S1x1x384 : Shape := ⟨3, ![1, 1, 384]⟩
abbrev S16x24x24x384 : Shape := ⟨4, ![16, 24, 24, 384]⟩
abbrev S16x384x24x24 : Shape := ⟨4, ![16, 384, 24, 24]⟩
abbrev S192x16x24x24 : Shape := ⟨4, ![192, 16, 24, 24]⟩
abbrev S16x192x24x24 : Shape := ⟨4, ![16, 192, 24, 24]⟩
abbrev S1x192x1x1 : Shape := ⟨4, ![1, 192, 1, 1]⟩
abbrev S16x8x24x24x24 : Shape := ⟨5, ![16, 8, 24, 24, 24]⟩
abbrev S128x24x24x24 : Shape := ⟨4, ![128, 24, 24, 24]⟩
abbrev S128x24x4x6x4x6 : Shape := ⟨6, ![128, 24, 4, 6, 4, 6]⟩
abbrev S128x24x4x4 : Shape := ⟨4, ![128, 24, 4, 4]⟩
abbrev S128x24x16 : Shape := ⟨3, ![128, 24, 16]⟩
abbrev S128x16x24 : Shape := ⟨3, ![128, 16, 24]⟩
abbrev S128x24x576 : Shape := ⟨3, ![128, 24, 576]⟩
abbrev S128x576x24 : Shape := ⟨3, ![128, 576, 24]⟩
abbrev S128x16 : Shape := ⟨2, ![128, 16]⟩
abbrev S128x16x1 : Shape := ⟨3, ![128, 16, 1]⟩
abbrev S128x576 : Shape := ⟨2, ![128, 576]⟩
abbrev S128x576x1 : Shape := ⟨3, ![128, 576, 1]⟩
abbrev S128x16x1x24 : Shape := ⟨4, ![128, 16, 1, 24]⟩
abbrev S128x1x576x24 : Shape := ⟨4, ![128, 1, 576, 24]⟩
abbrev S128x16x576x24 : Shape := ⟨4, ![128, 16, 576, 24]⟩
abbrev S128x16x576 : Shape := ⟨3, ![128, 16, 576]⟩
abbrev S1x1x1 : Shape := ⟨3, ![1, 1, 1]⟩
abbrev S1x1x16 : Shape := ⟨3, ![1, 1, 16]⟩
abbrev S128x576x16 : Shape := ⟨3, ![128, 576, 16]⟩
abbrev S384x16x24x24 : Shape := ⟨4, ![384, 16, 24, 24]⟩
abbrev S1x384x1x1 : Shape := ⟨4, ![1, 384, 1, 1]⟩
abbrev S16x384x576 : Shape := ⟨3, ![16, 384, 576]⟩
abbrev S16x576x1536 : Shape := ⟨3, ![16, 576, 1536]⟩
abbrev S1x1x1536 : Shape := ⟨3, ![1, 1, 1536]⟩

abbrev nBuf : Space → Nat
  | .hbm => 211
  | .vmem => 0
  | .smem => 0
  | _ => 0

abbrev hbmTy0_0 (i : Nat) : BufTy := match i % 128 with
  | 0 => ⟨S16x576x384, .f32⟩
  | 1 => ⟨S384, .f32⟩
  | 2 => ⟨S384, .f32⟩
  | 3 => ⟨S384, .f32⟩
  | 4 => ⟨S384, .f32⟩
  | 5 => ⟨S192x384, .f32⟩
  | 6 => ⟨S192, .f32⟩
  | 7 => ⟨S192x384, .f32⟩
  | 8 => ⟨S192, .f32⟩
  | 9 => ⟨S1, .f32⟩
  | 10 => ⟨S1, .f32⟩
  | 11 => ⟨S384x192, .f32⟩
  | 12 => ⟨S384, .f32⟩
  | 13 => ⟨S1536x384, .f32⟩
  | 14 => ⟨S1536, .f32⟩
  | 15 => ⟨S384x1536, .f32⟩
  | 16 => ⟨S384, .f32⟩
  | 17 => ⟨S_, .f32⟩
  | 18 => ⟨S16x576, .f32⟩
  | 19 => ⟨S16x576x1, .f32⟩
  | 20 => ⟨S_, .f32⟩
  | 21 => ⟨S16x576x1, .f32⟩
  | 22 => ⟨S16x576x1, .f32⟩
  | 23 => ⟨S16x576x384, .f32⟩
  | 24 => ⟨S16x576x384, .f32⟩
  | 25 => ⟨S16x576x384, .f32⟩
  | 26 => ⟨S_, .f32⟩
  | 27 => ⟨S16x576, .f32⟩
  | 28 => ⟨S16x576x1, .f32⟩
  | 29 => ⟨S_, .f32⟩
  | 30 => ⟨S16x576x1, .f32⟩
  | 31 => ⟨S16x576x1, .f32⟩
  | 32 => ⟨S16x576x384, .f32⟩
  | 33 => ⟨S16x576x384, .f32⟩
  | 34 => ⟨S_, .f32⟩
  | 35 => ⟨S16x576x1, .f32⟩
  | 36 => ⟨S16x576x1, .f32⟩
  | 37 => ⟨S16x576x1, .f32⟩
  | 38 => ⟨S16x576x384, .f32⟩
  | 39 => ⟨S16x576x384, .f32⟩
  | 40 => ⟨S1x1x384, .f32⟩
  | 41 => ⟨S16x576x384, .f32⟩
  | 42 => ⟨S16x576x384, .f32⟩
  | 43 => ⟨S1x1x384, .f32⟩
  | 44 => ⟨S16x576x384, .f32⟩
  | 45 => ⟨S16x576x384, .f32⟩
  | 46 => ⟨S16x24x24x384, .f32⟩
  | 47 => ⟨S16x384x24x24, .f32⟩
  | 48 => ⟨S192x16x24x24, .f32⟩
  | 49 => ⟨S16x192x24x24, .f32⟩
  | 50 => ⟨S1x192x1x1, .f32⟩
  | 51 => ⟨S16x192x24x24, .f32⟩
  | 52 => ⟨S16x192x24x24, .f32⟩
  | 53 => ⟨S192x16x24x24, .f32⟩
  | 54 => ⟨S16x192x24x24, .f32⟩
  | 55 => ⟨S1x192x1x1, .f32⟩
  | 56 => ⟨S16x192x24x24, .f32⟩
  | 57 => ⟨S16x192x24x24, .f32⟩
  | 58 => ⟨S16x8x24x24x24, .f32⟩
  | 59 => ⟨S128x24x24x24, .f32⟩
  | 60 => ⟨S16x8x24x24x24, .f32⟩
  | 61 => ⟨S128x24x24x24, .f32⟩
  | 62 => ⟨S128x24x4x6x4x6, .f32⟩
  | 63 => ⟨S_, .f32⟩
  | 64 => ⟨S128x24x4x4, .f32⟩
  | 65 => ⟨S_, .f32⟩
  | 66 => ⟨S128x24x4x4, .f32⟩
  | 67 => ⟨S128x24x4x4, .f32⟩
  | 68 => ⟨S128x24x4x6x4x6, .f32⟩
  | 69 => ⟨S_, .f32⟩
  | 70 => ⟨S128x24x4x4, .f32⟩
  | 71 => ⟨S_, .f32⟩
  | 72 => ⟨S128x24x4x4, .f32⟩
  | 73 => ⟨S128x24x4x4, .f32⟩
  | 74 => ⟨S128x24x16, .f32⟩
  | 75 => ⟨S128x16x24, .f32⟩
  | 76 => ⟨S128x24x16, .f32⟩
  | 77 => ⟨S128x16x24, .f32⟩
  | 78 => ⟨S128x24x576, .f32⟩
  | 79 => ⟨S128x576x24, .f32⟩
  | 80 => ⟨S128x16x24, .f32⟩
  | 81 => ⟨S_, .f32⟩
  | 82 => ⟨S128x16, .f32⟩
  | 83 => ⟨S128x16x1, .f32⟩
  | 84 => ⟨S128x16x1, .f32⟩
  | 85 => ⟨S_, .f32⟩
  | 86 => ⟨S128x16x1, .f32⟩
  | 87 => ⟨S128x16x1, .f32⟩
  | 88 => ⟨S128x16x24, .f32⟩
  | 89 => ⟨S128x16x24, .f32⟩
  | 90 => ⟨S128x576x24, .f32⟩
  | 91 => ⟨S_, .f32⟩
  | 92 => ⟨S128x576, .f32⟩
  | 93 => ⟨S128x576x1, .f32⟩
  | 94 => ⟨S128x576x1, .f32⟩
  | 95 => ⟨S_, .f32⟩
  | 96 => ⟨S128x576x1, .f32⟩
  | 97 => ⟨S128x576x1, .f32⟩
  | 98 => ⟨S128x576x24, .f32⟩
  | 99 => ⟨S128x576x24, .f32⟩
  | 100 => ⟨S128x16x1x24, .f32⟩
  | 101 => ⟨S128x1x576x24, .f32⟩
  | 102 => ⟨S128x16x576x24, .f32⟩
  | 103 => ⟨S128x16x576x24, .f32⟩
  | 104 => ⟨S128x16x576x24, .f32⟩
  | 105 => ⟨S128x16x576x24, .f32⟩
  | 106 => ⟨S_, .f32⟩
  | 107 => ⟨S128x16x576, .f32⟩
  | 108 => ⟨S128x16x576, .f32⟩
  | 109 => ⟨S128x16x576, .f32⟩
  | 110 => ⟨S128x16x576, .f32⟩
  | 111 => ⟨S1x1x1, .f32⟩
  | 112 => ⟨S128x16x576, .f32⟩
  | 113 => ⟨S128x16x576, .f32⟩
  | 114 => ⟨S1x1x1, .f32⟩
  | 115 => ⟨S128x16x576, .f32⟩
  | 116 => ⟨S128x16x576, .f32⟩
  | 117 => ⟨S_, .f32⟩
  | 118 => ⟨S_, .f32⟩
  | 119 => ⟨S128x16x576, .f32⟩
  | 120 => ⟨S128x16x576, .i1⟩
  | 121 => ⟨S_, .f32⟩
  | 122 => ⟨S128x16x576, .f32⟩
  | 123 => ⟨S128x16x576, .f32⟩
  | 124 => ⟨S128x16x576, .f32⟩
  | 125 => ⟨S128x16x576, .i32⟩
  | 126 => ⟨S_, .f32⟩
  | 127 => ⟨S_, .i32⟩
  | _ => ⟨S16x576x384, .f32⟩

abbrev hbmTy0_1 (i : Nat) : BufTy := match i % 128 with
  | 0 => ⟨S128x576, .f32⟩
  | 1 => ⟨S128x576, .i32⟩
  | 2 => ⟨S128x576x1, .i32⟩
  | 3 => ⟨S1x1x16, .i32⟩
  | 4 => ⟨S128x576x16, .i32⟩
  | 5 => ⟨S128x576x16, .i32⟩
  | 6 => ⟨S128x576x16, .i1⟩
  | 7 => ⟨S128x576x16, .f32⟩
  | 8 => ⟨S128x16x576, .f32⟩
  | 9 => ⟨S128x16x576, .f32⟩
  | 10 => ⟨S128x24x576, .f32⟩
  | 11 => ⟨S128x576x24, .f32⟩
  | 12 => ⟨S128x16x24, .f32⟩
  | 13 => ⟨S128x16x24, .f32⟩
  | 14 => ⟨S_, .f32⟩
  | 15 => ⟨S128x16, .f32⟩
  | 16 => ⟨S128x16x1, .f32⟩
  | 17 => ⟨S_, .f32⟩
  | 18 => ⟨S128x16x1, .f32⟩
  | 19 => ⟨S128x16x1, .f32⟩
  | 20 => ⟨S128x16x24, .f32⟩
  | 21 => ⟨S128x16x24, .f32⟩
  | 22 => ⟨S128x576x24, .f32⟩
  | 23 => ⟨S128x24x576, .f32⟩
  | 24 => ⟨S128x24x24x24, .f32⟩
  | 25 => ⟨S16x192x24x24, .f32⟩
  | 26 => ⟨S384x16x24x24, .f32⟩
  | 27 => ⟨S16x384x24x24, .f32⟩
  | 28 => ⟨S1x384x1x1, .f32⟩
  | 29 => ⟨S16x384x24x24, .f32⟩
  | 30 => ⟨S16x384x24x24, .f32⟩
  | 31 => ⟨S16x384x576, .f32⟩
  | 32 => ⟨S16x576x384, .f32⟩
  | 33 => ⟨S16x576x384, .f32⟩
  | 34 => ⟨S_, .f32⟩
  | 35 => ⟨S16x576, .f32⟩
  | 36 => ⟨S16x576x1, .f32⟩
  | 37 => ⟨S_, .f32⟩
  | 38 => ⟨S16x576x1, .f32⟩
  | 39 => ⟨S16x576x1, .f32⟩
  | 40 => ⟨S16x576x384, .f32⟩
  | 41 => ⟨S16x576x384, .f32⟩
  | 42 => ⟨S16x576x384, .f32⟩
  | 43 => ⟨S_, .f32⟩
  | 44 => ⟨S16x576, .f32⟩
  | 45 => ⟨S16x576x1, .f32⟩
  | 46 => ⟨S_, .f32⟩
  | 47 => ⟨S16x576x1, .f32⟩
  | 48 => ⟨S16x576x1, .f32⟩
  | 49 => ⟨S16x576x384, .f32⟩
  | 50 => ⟨S16x576x384, .f32⟩
  | 51 => ⟨S_, .f32⟩
  | 52 => ⟨S16x576x1, .f32⟩
  | 53 => ⟨S16x576x1, .f32⟩
  | 54 => ⟨S16x576x1, .f32⟩
  | 55 => ⟨S16x576x384, .f32⟩
  | 56 => ⟨S16x576x384, .f32⟩
  | 57 => ⟨S1x1x384, .f32⟩
  | 58 => ⟨S16x576x384, .f32⟩
  | 59 => ⟨S16x576x384, .f32⟩
  | 60 => ⟨S1x1x384, .f32⟩
  | 61 => ⟨S16x576x384, .f32⟩
  | 62 => ⟨S16x576x384, .f32⟩
  | 63 => ⟨S384x1536, .f32⟩
  | 64 => ⟨S16x576x1536, .f32⟩
  | 65 => ⟨S1x1x1536, .f32⟩
  | 66 => ⟨S16x576x1536, .f32⟩
  | 67 => ⟨S16x576x1536, .f32⟩
  | 68 => ⟨S_, .f32⟩
  | 69 => ⟨S16x576x1536, .f32⟩
  | 70 => ⟨S16x576x1536, .f32⟩
  | 71 => ⟨S16x576x1536, .f32⟩
  | 72 => ⟨S_, .f32⟩
  | 73 => ⟨S16x576x1536, .f32⟩
  | 74 => ⟨S16x576x1536, .f32⟩
  | 75 => ⟨S16x576x1536, .f32⟩
  | 76 => ⟨S16x576x1536, .f32⟩
  | 77 => ⟨S1536x384, .f32⟩
  | 78 => ⟨S16x576x384, .f32⟩
  | 79 => ⟨S1x1x384, .f32⟩
  | 80 => ⟨S16x576x384, .f32⟩
  | 81 => ⟨S16x576x384, .f32⟩
  | 82 => ⟨S16x576x384, .f32⟩
  | _ => ⟨S16x576x384, .f32⟩

abbrev hbmTy (i : Nat) : BufTy := match i / 128 with
  | 0 => hbmTy0_0 i
  | 1 => hbmTy0_1 i
  | _ => ⟨S16x576x384, .f32⟩

abbrev bufTy : (tb : Table) → Fin (tcTables nBuf tb) → BufTy
  | .hbm, ⟨i, _⟩ => hbmTy i
  | _, _ => ⟨S16x576x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_4 : Ref sig .tc := ⟨.hbm, 63, rfl⟩
abbrev main_v41 : Ref sig .tc := ⟨.hbm, 64, rfl⟩
abbrev main_cst_5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call0_v0 : Ref sig .tc := ⟨.hbm, 80, rfl⟩
abbrev main_call0_cst : Ref sig .tc := ⟨.hbm, 81, rfl⟩
abbrev main_call0_v1 : Ref sig .tc := ⟨.hbm, 82, rfl⟩
abbrev main_call0_v2 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_call1_v0 : Ref sig .tc := ⟨.hbm, 90, rfl⟩
abbrev main_call1_cst : Ref sig .tc := ⟨.hbm, 91, rfl⟩
abbrev main_call1_v1 : Ref sig .tc := ⟨.hbm, 92, rfl⟩
abbrev main_call1_v2 : Ref sig .tc := ⟨.hbm, 93, rfl⟩
abbrev main_v59 : Ref sig .tc := ⟨.hbm, 94, rfl⟩
abbrev main_cst_9 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_call2_v0 : Ref sig .tc := ⟨.hbm, 105, rfl⟩
abbrev main_call2_cst : Ref sig .tc := ⟨.hbm, 106, rfl⟩
abbrev main_call2_v1 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_10 : Ref sig .tc := ⟨.hbm, 117, rfl⟩
abbrev main_call3_cst : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_v78 : Ref sig .tc := ⟨.hbm, 124, rfl⟩
abbrev main_call4_v0 : Ref sig .tc := ⟨.hbm, 125, rfl⟩
abbrev main_call4_cst : Ref sig .tc := ⟨.hbm, 126, rfl⟩
abbrev main_call4_c : Ref sig .tc := ⟨.hbm, 127, rfl⟩
abbrev main_call4_v1_0 : Ref sig .tc := ⟨.hbm, 128, rfl⟩
abbrev main_v79 : Ref sig .tc := ⟨.hbm, 129, rfl⟩
abbrev main_call5_v0 : Ref sig .tc := ⟨.hbm, 130, rfl⟩
abbrev main_call5_v1 : Ref sig .tc := ⟨.hbm, 131, rfl⟩
abbrev main_call5_v2 : Ref sig .tc := ⟨.hbm, 132, rfl⟩
abbrev main_call5_v3 : Ref sig .tc := ⟨.hbm, 133, rfl⟩
abbrev main_call5_v4 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_cst_11 : Ref sig .tc := ⟨.hbm, 142, rfl⟩
abbrev main_v87 : Ref sig .tc := ⟨.hbm, 143, rfl⟩
abbrev main_v88 : Ref sig .tc := ⟨.hbm, 144, rfl⟩
abbrev main_cst_12 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_cst_13 : Ref sig .tc := ⟨.hbm, 162, rfl⟩
abbrev main_v105 : Ref sig .tc := ⟨.hbm, 163, rfl⟩
abbrev main_v106 : Ref sig .tc := ⟨.hbm, 164, rfl⟩
abbrev main_cst_14 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_cst_15 : Ref sig .tc := ⟨.hbm, 171, rfl⟩
abbrev main_v112 : Ref sig .tc := ⟨.hbm, 172, rfl⟩
abbrev main_v113 : Ref sig .tc := ⟨.hbm, 173, rfl⟩
abbrev main_cst_16 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_cst_17 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_cst_18 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_cst_19 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩

abbrev nD : Nat := 1
abbrev τ : Topo := Topo.v7x

variable {F : FTy → Type} [FloatOps F]
-- ==== Proof.Spec.lean ====
/- The layer's mathematics over plain functions of indices, one image at a time: what the reference computes, written once. -/
module

public import Idealize.ShloMosaic.PureOps.Ideal

@[expose] public section

noncomputable section

namespace Cert.Cluster

open Idealize.ShloMosaic

/-- The value of the bit pattern of an f32 number. -/
abbrev lit (b : BitVec 32) : EReal := Ideal.ofBits .f32 b

/-! ## Layer norm of one row -/

/-- The mean of a row of 384 numbers. -/
def mean (x : Fin 384 → EReal) : EReal := Ideal.div (∑ k, x k) (lit 0x43C00000#32)

/-- The variance of a row of 384 numbers. -/
def var (x : Fin 384 → EReal) : EReal :=
  Ideal.div (∑ k, (x k - mean x) * (x k - mean x)) (lit 0x43C00000#32)

/-- Layer norm: centred, divided by the standard deviation, scaled and shifted. -/
def ln (x g b : Fin 384 → EReal) (k : Fin 384) : EReal :=
  Ideal.div (x k - mean x) (Ideal.sqrt (var x + lit 0x3727C5AC#32)) * g k + b k

/-! ## The indices -/

/-- Channel `d` of head `h`. -/
def ch (h : Fin 8) (d : Fin 24) : Fin 192 := ⟨h.val * 24 + d.val, by omega⟩

/-- The head of a channel. -/
def hd (c : Fin 192) : Fin 8 := ⟨c.val / 24, by omega⟩

/-- The channel within its head. -/
def lo (c : Fin 192) : Fin 24 := ⟨c.val % 24, by omega⟩

/-- Row `a`, column `b` of the 6 × 6 patch of cluster `m`, as a position of the 24 × 24 grid. -/
def pix (m : Fin 16) (a b : Fin 6) : Fin 576 :=
  ⟨((m.val / 4) * 6 + a.val) * 24 + ((m.val % 4) * 6 + b.val), by omega⟩

/-! ## Clustering of one head -/

/-- The mean over the patch of cluster `m`. -/
def pool (z : Fin 576 → EReal) (m : Fin 16) : EReal :=
  Ideal.div (∑ a : Fin 6, ∑ b : Fin 6, z (pix m a b)) (lit 0x42100000#32)

/-- The sum of squares of a vector. -/
def sq (v : Fin 24 → EReal) : EReal := ∑ d, v d * v d

/-- A vector divided by its length (at least 1e-12). -/
def unit (v : Fin 24 → EReal) (d : Fin 24) : EReal :=
  Ideal.div (v d) (max (Ideal.sqrt (sq v)) (lit 0x2B8CBCCC#32))

/-- The distance of two vectors. -/
def dist (u v : Fin 24 → EReal) : EReal := Ideal.sqrt (∑ d, (u d - v d) * (u d - v d))

/-- The leaky rectifier. -/
def leaky (s : EReal) : EReal := if 0 ≤ s then s else lit 0x3E4CCCCD#32 * s

/-- The score of a centre `u` and a feature `v`. -/
def score (sa sb : EReal) (u v : Fin 24 → EReal) : EReal :=
  leaky (sb + sa * Ideal.exp (-(dist (unit u) (unit v))))

/-- Cluster `m` is the first of those of the highest score. -/
def Wins (s : Fin 16 → EReal) (m : Fin 16) : Prop := (∀ k, s k ≤ s m) ∧ ∀ k, k < m → s k < s m

open Classical in
/-- One at the winning cluster, zero at the others. -/
def pick (s : Fin 16 → EReal) (m : Fin 16) : EReal := if Wins s m then 1 else 0

/-- What cluster `m` holds of one channel `v`, whose patch mean is `vc`: the weighted sum of the positions that
    chose `m`, plus the patch mean, over their number plus one. -/
def held (s : Fin 576 → Fin 16 → EReal) (v : Fin 576 → EReal) (vc : Fin 16 → EReal) (m : Fin 16) : EReal :=
  Ideal.div ((∑ n, s n m * pick (s n) m * v n) + vc m) ((∑ n, pick (s n) m) + lit 0x3F800000#32)

/-- What position `n` reads back of one channel. -/
def back (s : Fin 576 → Fin 16 → EReal) (v : Fin 576 → EReal) (vc : Fin 16 → EReal) (n : Fin 576) : EReal :=
  ∑ m, s n m * pick (s n) m * held s v vc m

/-! ## The whole layer -/

/-- The parameters of the layer. -/
structure Par where
  /-- First layer norm, scale. -/
  g1 : Fin 384 → EReal
  /-- First layer norm, shift. -/
  e1 : Fin 384 → EReal
  /-- Second layer norm, scale. -/
  g2 : Fin 384 → EReal
  /-- Second layer norm, shift. -/
  e2 : Fin 384 → EReal
  /-- Feature projection. -/
  wf : Fin 192 → Fin 384 → EReal
  /-- Feature bias. -/
  bf : Fin 192 → EReal
  /-- Value projection. -/
  wv : Fin 192 → Fin 384 → EReal
  /-- Value bias. -/
  bv : Fin 192 → EReal
  /-- Similarity scale. -/
  sa : EReal
  /-- Similarity shift. -/
  sb : EReal
  /-- Output projection. -/
  wp : Fin 384 → Fin 192 → EReal
  /-- Output bias. -/
  bp : Fin 384 → EReal
  /-- First layer of the perceptron. -/
  w1 : Fin 1536 → Fin 384 → EReal
  /-- Its bias. -/
  b1 : Fin 1536 → EReal
  /-- Second layer of the perceptron. -/
  w2 : Fin 384 → Fin 1536 → EReal
  /-- Its bias. -/
  b2 : Fin 384 → EReal

variable (P : Par)

/-- A projection of a normalised row. -/
def proj (w : Fin 192 → Fin 384 → EReal) (b : Fin 192 → EReal) (x : Fin 384 → EReal) (c : Fin 192) : EReal :=
  (∑ k, ln x P.g1 P.e1 k * w c k) + b c

/-- The features of an image `X`. -/
def feat (X : Fin 576 → Fin 384 → EReal) (n : Fin 576) (c : Fin 192) : EReal := proj P P.wf P.bf (X n) c

/-- The values of an image `X`. -/
def vals (X : Fin 576 → Fin 384 → EReal) (n : Fin 576) (c : Fin 192) : EReal := proj P P.wv P.bv (X n) c

/-- The features of position `n` in head `h`. -/
def fvec (X : Fin 576 → Fin 384 → EReal) (h : Fin 8) (n : Fin 576) (d : Fin 24) : EReal := feat P X n (ch h d)

/-- The centre of cluster `m` in head `h`. -/
def cvec (X : Fin 576 → Fin 384 → EReal) (h : Fin 8) (m : Fin 16) (d : Fin 24) : EReal :=
  pool (fun n => feat P X n (ch h d)) m

/-- The scores of head `h`. -/
def scores (X : Fin 576 → Fin 384 → EReal) (h : Fin 8) (n : Fin 576) (m : Fin 16) : EReal :=
  score P.sa P.sb (cvec P X h m) (fvec P X h n)

/-- The clustered values, read back at position `n`, channel `c`. -/
def att (X : Fin 576 → Fin 384 → EReal) (n : Fin 576) (c : Fin 192) : EReal :=
  back (scores P X (hd c)) (fun n' => vals P X n' c) (pool fun n' => vals P X n' c) n

/-- The input plus the projected clustered values. -/
def mid (X : Fin 576 → Fin 384 → EReal) (n : Fin 576) (k : Fin 384) : EReal :=
  X n k + ((∑ c, att P X n c * P.wp k c) + P.bp k)

/-- The first layer of the perceptron. -/
def hid (X : Fin 576 → Fin 384 → EReal) (n : Fin 576) (j : Fin 1536) : EReal :=
  (∑ k, ln (mid P X n) P.g2 P.e2 k * P.w1 j k) + P.b1 j

/-- The exact gaussian unit, by the complementary error function. -/
def gelu (y : EReal) : EReal := lit 0x3F000000#32 * y * Ideal.erfc (-y * lit 0x3F3504F3#32)

/-- The layer's result. -/
def out (X : Fin 576 → Fin 384 → EReal) (n : Fin 576) (k : Fin 384) : EReal :=
  mid P X n k + ((∑ j, gelu (hid P X n j) * P.w2 k j) + P.b2 k)

/-- What the claim assumes of an image: no feature vector and no centre has length (numerically) zero, and the
    features are finite. -/
def Good (X : Fin 576 → Fin 384 → EReal) : Prop :=
  (∀ h n, lit 0x179ABE15#32 ≤ sq (fvec P X h n) ∧ sq (fvec P X h n) < ⊤) ∧
    ∀ h m, lit 0x179ABE15#32 ≤ sq (cvec P X h m)

end Cert.Cluster

end
-- ==== Proof.Args.lean ====
/- The layer of the seventeen argument arrays. -/
module

public import Idealize.ShloMosaic.Lib.Pointwise
public import proofs.«01_k».proof.KernelIdeal
public import proofs.«01_k».proof.Proof.Spec

@[expose] public section

noncomputable section

namespace Cert.Cluster

open Idealize.ShloMosaic Cert.KernelIdeal

/-- The parameters in the argument arrays. -/
def parOf (a1 : FVec Ideal S384 .f32) (a2 : FVec Ideal S384 .f32) (a3 : FVec Ideal S384 .f32) (a4 : FVec Ideal S384 .f32) (a5 : FVec Ideal S192x384 .f32) (a6 : FVec Ideal S192 .f32) (a7 : FVec Ideal S192x384 .f32) (a8 : FVec Ideal S192 .f32) (a9 : FVec Ideal S1 .f32) (a10 : FVec Ideal S1 .f32) (a11 : FVec Ideal S384x192 .f32) (a12 : FVec Ideal S384 .f32) (a13 : FVec Ideal S1536x384 .f32) (a14 : FVec Ideal S1536 .f32) (a15 : FVec Ideal S384x1536 .f32) (a16 : FVec Ideal S384 .f32) : Par where
  g1 := fun k => a1 (ix1 k)
  e1 := fun k => a2 (ix1 k)
  g2 := fun k => a3 (ix1 k)
  e2 := fun k => a4 (ix1 k)
  wf := fun j k => a5 (ix2 j k)
  bf := fun k => a6 (ix1 k)
  wv := fun j k => a7 (ix2 j k)
  bv := fun k => a8 (ix1 k)
  sa := a9 (ix1 0)
  sb := a10 (ix1 0)
  wp := fun j k => a11 (ix2 j k)
  bp := fun k => a12 (ix1 k)
  w1 := fun j k => a13 (ix2 j k)
  b1 := fun k => a14 (ix1 k)
  w2 := fun j k => a15 (ix2 j k)
  b2 := fun k => a16 (ix1 k)

/-- Image `b` of the batch. -/
def imgOf (a0 : FVec Ideal S16x576x384 .f32) (b : Fin 16) (n : Fin 576) (k : Fin 384) : EReal := a0 (ix3 b n k)

/-- The layer's result on the whole batch. -/
def layerOf (P : Par) (a0 : FVec Ideal S16x576x384 .f32) : FVec Ideal S16x576x384 .f32 :=
  fun j => out P (imgOf a0 (j 0)) (j 1) (j 2)

/-- The layer read at one element. -/
theorem layerOf_apply (P : Par) (a0 : FVec Ideal S16x576x384 .f32) (b : Fin 16) (n : Fin 576) (k : Fin 384) :
    layerOf P a0 (ix3 b n k) = out P (imgOf a0 b) n k := rfl

end Cert.Cluster

end
-- ==== Proof.Scalar.lean ====
/- Scalar facts: the values of the literals, and the equations between the two ways of writing a layer norm, a unit
   vector, a distance and the gaussian unit. -/
module

public import proofs.«01_k».proof.Proof.Spec
public import Idealize.ShloMosaic.Lib.IdealHost

@[expose] public section

noncomputable section

namespace Cert.Cluster

open Idealize.ShloMosaic

/-! ## The literals -/

/-- The word of 384. -/
theorem lit_384 : lit 0x43C00000#32 = ((384 : ℝ) : EReal) := by
  simp [lit, Ideal.ofBits, Ideal.ieee, -EReal.coe_mul]; norm_num

/-- The word of 36. -/
theorem lit_36 : lit 0x42100000#32 = ((36 : ℝ) : EReal) := by
  simp [lit, Ideal.ofBits, Ideal.ieee, -EReal.coe_mul]; norm_num

/-- The word of 1. -/
theorem lit_1 : lit 0x3F800000#32 = 1 := by
  rw [show (1 : EReal) = ((1 : ℝ) : EReal) by norm_cast]
  simp [lit, Ideal.ofBits, Ideal.ieee, -EReal.coe_mul]; norm_num

/-- The word of 2. -/
theorem lit_2 : lit 0x40000000#32 = ((2 : ℝ) : EReal) := by
  simp [lit, Ideal.ofBits, Ideal.ieee, -EReal.coe_mul]; norm_num

/-- The word of 0. -/
theorem lit_0 : lit 0x00000000#32 = 0 := by
  simp [lit, Ideal.ofBits, Ideal.ieee]

/-- The word of minus infinity. -/
theorem lit_bot : lit 0xFF800000#32 = ⊥ := by
  simp [lit, Ideal.ofBits, Ideal.ieee]

/-- The word of infinity. -/
theorem lit_top : lit 0x7F800000#32 = ⊤ := by
  simp [lit, Ideal.ofBits, Ideal.ieee]

/-- The layer norm's epsilon is a positive real. -/
theorem lit_eps : ∃ r : ℝ, 0 < r ∧ lit 0x3727C5AC#32 = (r : EReal) := by
  refine ⟨_, ?_, by simp [lit, Ideal.ofBits, Ideal.ieee, -EReal.coe_mul]; rfl⟩
  norm_num

/-- The two floors of the unit vectors: both positive reals, the second at least the square of the first. -/
theorem lit_tiny : ∃ r s : ℝ, 0 < r ∧ 0 < s ∧ r * r ≤ s ∧ lit 0x2B8CBCCC#32 = (r : EReal) ∧ lit 0x179ABE15#32 = (s : EReal) := by
  refine ⟨_, _, ?_, ?_, ?_, by simp [lit, Ideal.ofBits, Ideal.ieee, -EReal.coe_mul]; rfl,
    by simp [lit, Ideal.ofBits, Ideal.ieee, -EReal.coe_mul]; rfl⟩ <;> norm_num

/-! ## Roots -/

/-- The root of a real that is not negative. -/
theorem sqrt_coe {r : ℝ} (h : 0 ≤ r) : Ideal.sqrt (r : EReal) = ((Real.sqrt r : ℝ) : EReal) :=
  if_neg (not_lt.2 h)

/-- The reciprocal root of a positive real. -/
theorem rsqrt_coe {r : ℝ} (h : 0 < r) : Ideal.rsqrt (r : EReal) = (((Real.sqrt r)⁻¹ : ℝ) : EReal) :=
  (if_neg (not_lt.2 h.le)).trans (if_neg h.ne')

/-- One over the root of infinity is zero. -/
theorem rsqrt_top : Ideal.rsqrt ⊤ = 0 := rfl

/-- The root of infinity is infinity. -/
theorem sqrt_top : Ideal.sqrt ⊤ = ⊤ := rfl

/-- A square is not negative. -/
theorem mul_self_nonneg' (x : EReal) : 0 ≤ x * x := by
  induction x using EReal.rec with
  | bot => simp
  | top => simp
  | coe r => exact_mod_cast mul_self_nonneg r

/-- For a positive number, multiplying by the reciprocal root is dividing by the root. -/
theorem mul_rsqrt (x : EReal) {v : EReal} (hv : 0 < v) : x * Ideal.rsqrt v = Ideal.div x (Ideal.sqrt v) := by
  induction v using EReal.rec with
  | bot => simp at hv
  | top => simp [rsqrt_top, sqrt_top, Ideal.div]
  | coe r =>
    have h : 0 < r := by exact_mod_cast hv
    have h1 : Real.sqrt r ≠ 0 := (Real.sqrt_pos.2 h).ne'
    rw [rsqrt_coe h, sqrt_coe h.le, Ideal.div_coe h1, one_div]

/-- A variance is not negative. -/
theorem var_nonneg (x : Fin 384 → EReal) : 0 ≤ var x := by
  unfold var
  rw [lit_384, Ideal.div_coe (by norm_num)]
  exact mul_nonneg (Finset.sum_nonneg fun k _ => mul_self_nonneg' _) (by exact_mod_cast (by norm_num : (0:ℝ) ≤ 1 / 384))

/-- Layer norm by the reciprocal root is layer norm. -/
theorem ln_eq (x g b : Fin 384 → EReal) (k : Fin 384) :
    (x k - mean x) * Ideal.rsqrt (var x + lit 0x3727C5AC#32) * g k + b k = ln x g b k := by
  obtain ⟨r, hr, e⟩ := lit_eps
  have h : 0 < var x + lit 0x3727C5AC#32 := by
    rw [e]
    calc (0 : EReal) < (r : EReal) := by exact_mod_cast hr
      _ = 0 + (r : EReal) := (zero_add _).symm
      _ ≤ _ := by gcongr; exact var_nonneg x
  rw [mul_rsqrt _ h]; rfl

/-- A unit vector by the reciprocal root is the unit vector, if the squares' sum is not tiny. -/
theorem unit_eq (v : Fin 24 → EReal) (h : lit 0x179ABE15#32 ≤ sq v) (d : Fin 24) :
    v d * Ideal.rsqrt (max (sq v) (lit 0x179ABE15#32)) = unit v d := by
  obtain ⟨r, s, hr, hs, hrs, e1, e2⟩ := lit_tiny
  have h0 : 0 < sq v := lt_of_lt_of_le (by rw [e2]; exact_mod_cast hs) h
  rw [max_eq_left h, mul_rsqrt _ h0]
  unfold unit
  rw [max_eq_left]
  rw [e2] at h
  rw [e1]
  generalize sq v = w at *
  induction w using EReal.rec with
  | bot => simp at h0
  | top => simp [sqrt_top]
  | coe w =>
    have hw : s ≤ w := by exact_mod_cast h
    rw [sqrt_coe (hs.le.trans hw)]
    exact_mod_cast Real.le_sqrt_of_sq_le (by nlinarith)

/-! ## Finite vectors -/

/-- A vector of finite sum of squares is finite. -/
theorem finite_of_sq {v : Fin 24 → EReal} (h : sq v < ⊤) : ∃ w : Fin 24 → ℝ, v = fun d => (w d : EReal) := by
  have hd : ∀ d, v d ≠ ⊤ ∧ v d ≠ ⊥ := by
    intro d
    have : v d * v d ≤ sq v := Finset.single_le_sum (fun k _ => mul_self_nonneg' (v k)) (Finset.mem_univ d)
    have h1 := lt_of_le_of_lt this h
    refine ⟨fun e => ?_, fun e => ?_⟩ <;> simp [e] at h1
  exact ⟨fun d => (v d).toReal, funext fun d => (EReal.coe_toReal (hd d).1 (hd d).2).symm⟩

/-- A sum of reals is real. -/
theorem coe_sum {n : ℕ} (f : Fin n → ℝ) : (∑ d, (f d : EReal)) = ((∑ d, f d : ℝ) : EReal) :=
  (map_sum (⟨⟨Real.toEReal, rfl⟩, fun _ _ => rfl⟩ : ℝ →+ EReal) f Finset.univ).symm

/-- The unit vector of a finite vector that is not tiny is a real vector of length one. -/
theorem unit_real {w : Fin 24 → ℝ} (h : lit 0x179ABE15#32 ≤ sq fun d => (w d : EReal)) :
    ∃ u : Fin 24 → ℝ, (∑ d, u d * u d) = 1 ∧ (unit fun d => (w d : EReal)) = fun d => (u d : EReal) := by
  obtain ⟨r, s, hr, hs, hrs, e1, e2⟩ := lit_tiny
  have e : (sq fun d => (w d : EReal)) = ((∑ d, w d * w d : ℝ) : EReal) := by
    unfold sq; rw [← coe_sum]; simp [EReal.coe_mul]
  have hS : s ≤ ∑ d, w d * w d := by rw [e, e2] at h; exact_mod_cast h
  have h0 : 0 < ∑ d, w d * w d := hs.trans_le hS
  have h1 : Real.sqrt (∑ d, w d * w d) ≠ 0 := (Real.sqrt_pos.2 h0).ne'
  refine ⟨fun d => w d / Real.sqrt (∑ d, w d * w d), ?_, ?_⟩
  · have : ∀ d, w d / Real.sqrt (∑ d, w d * w d) * (w d / Real.sqrt (∑ d, w d * w d))
        = w d * w d / (∑ d, w d * w d) := by
      intro d
      rw [div_mul_div_comm, Real.mul_self_sqrt h0.le]
    simp only [this]
    rw [← Finset.sum_div, div_self h0.ne']
  · funext d
    rw [← unit_eq _ h, e, max_eq_left (by rw [← e]; exact h), mul_rsqrt _ (by exact_mod_cast h0)]
    rw [sqrt_coe h0.le, Ideal.div_coe h1, ← EReal.coe_mul, mul_one_div]

/-- The distance of two unit vectors by their inner product. -/
theorem dist_eq {u v : Fin 24 → EReal} (hu : lit 0x179ABE15#32 ≤ sq u) (hu' : sq u < ⊤)
    (hv : lit 0x179ABE15#32 ≤ sq v) (hv' : sq v < ⊤) :
    Ideal.sqrt (max (lit 0x40000000#32 - lit 0x40000000#32 * ∑ d, unit u d * unit v d) 0) = dist (unit u) (unit v) := by
  obtain ⟨u, rfl⟩ := finite_of_sq hu'
  obtain ⟨v, rfl⟩ := finite_of_sq hv'
  obtain ⟨a, ha, ea⟩ := unit_real hu
  obtain ⟨b, hb, eb⟩ := unit_real hv
  rw [ea, eb, lit_2]
  unfold dist
  have h1 : (∑ d, (a d : EReal) * (b d : EReal)) = ((∑ d, a d * b d : ℝ) : EReal) := by
    rw [← coe_sum]; simp [EReal.coe_mul]
  have h2 : (∑ d, ((a d : EReal) - (b d : EReal)) * ((a d : EReal) - (b d : EReal)))
      = ((∑ d, (a d - b d) * (a d - b d) : ℝ) : EReal) := by
    rw [← coe_sum]; simp [EReal.coe_mul, EReal.coe_sub]
  have h3 : (∑ d, (a d - b d) * (a d - b d)) = 2 - 2 * ∑ d, a d * b d := by
    have : ∀ d, (a d - b d) * (a d - b d) = a d * a d + b d * b d - 2 * (a d * b d) := fun d => by ring
    simp only [this]
    rw [Finset.sum_sub_distrib, Finset.sum_add_distrib, ha, hb, ← Finset.mul_sum]; ring
  rw [h1, h2, h3, ← EReal.coe_mul, ← EReal.coe_sub, max_eq_left]
  rw [← h3]
  exact_mod_cast Finset.sum_nonneg fun d _ => mul_self_nonneg _

/-! ## The gaussian unit -/

/-- The error function is odd. -/
theorem erf_neg (y : EReal) : Ideal.erf (-y) = -Ideal.erf y := by
  induction y using EReal.rec with
  | bot => exact (neg_neg (1 : EReal)).symm
  | top => rfl
  | coe r =>
    show ((_ : ℝ) : EReal) = -((_ : ℝ) : EReal)
    rw [← EReal.coe_neg]
    congr 1
    have := intervalIntegral.integral_comp_neg (fun t => Real.exp (-(t ^ 2))) (a := 0) (b := r)
    simp only [neg_zero, even_two.neg_pow] at this
    rw [this, intervalIntegral.integral_symm (-r) 0]; ring

/-- The gaussian unit by the error function. -/
theorem gelu_eq (y : EReal) :
    y * lit 0x3F000000#32 * (lit 0x3F800000#32 + Ideal.erf (y * lit 0x3F3504F3#32)) = gelu y := by
  unfold gelu Ideal.erfc
  rw [lit_1, EReal.neg_mul, erf_neg, sub_eq_add_neg, neg_neg, mul_comm y]

end Cert.Cluster

end
-- ==== Proof.Sums.lean ====
/- Sums over the 192 channels, the 128 head-cluster rows and the 576 positions whose terms vanish off one head or one
   patch, and the sum that pools a patch. -/
module

public import proofs.«01_k».proof.Proof.Scalar

@[expose] public section

noncomputable section

namespace Cert.Cluster

open Idealize.ShloMosaic

/-- The head and the cluster of a row of the 128 = 8 × 16 rows. -/
def rh (r : Fin 128) : Fin 8 := ⟨r.val / 16, by omega⟩

/-- The cluster of a row. -/
def rm (r : Fin 128) : Fin 16 := ⟨r.val % 16, by omega⟩

/-- The row of head `h` and cluster `m`. -/
def row (h : Fin 8) (m : Fin 16) : Fin 128 := ⟨h.val * 16 + m.val, by omega⟩

/-- The cluster whose patch holds position `n`. -/
def patch (n : Fin 576) : Fin 16 := ⟨(n.val / 24 / 6) * 4 + (n.val % 24) / 6, by omega⟩

/-- The head of a row. -/
theorem rh_row (h : Fin 8) (m : Fin 16) : rh (row h m) = h := Fin.ext (by simp only [rh, row]; omega)

/-- The centre of a row. -/
theorem rm_row (h : Fin 8) (m : Fin 16) : rm (row h m) = m := Fin.ext (by simp only [rm, row]; omega)

/-- A row from its head and centre. -/
theorem row_rh (r : Fin 128) : row (rh r) (rm r) = r := Fin.ext (by simp only [rh, rm, row]; omega)

/-- The head of a channel. -/
theorem hd_ch (h : Fin 8) (d : Fin 24) : hd (ch h d) = h := Fin.ext (by simp only [hd, ch]; omega)

/-- The place of a channel in its head. -/
theorem lo_ch (h : Fin 8) (d : Fin 24) : lo (ch h d) = d := Fin.ext (by simp only [lo, ch]; omega)

/-- A channel from its head and place. -/
theorem ch_hd (c : Fin 192) : ch (hd c) (lo c) = c := Fin.ext (by simp only [hd, lo, ch]; omega)

/-- A sum over all channels whose terms vanish off head `h`. -/
theorem sum_head (h : Fin 8) (f : Fin 192 → EReal) (hf : ∀ c, hd c ≠ h → f c = 0) :
    ∑ c, f c = ∑ d, f (ch h d) := by
  refine (Finset.sum_of_injOn (ch h) ?_ (fun _ _ => by simp) ?_ (fun _ _ => rfl)).symm
  · intro a _ b _ e
    rw [← lo_ch h a, e, lo_ch]
  · intro c _ hc
    exact hf c fun e => hc ⟨lo c, by simp, by rw [← e, ch_hd]⟩

/-- A sum over all rows whose terms vanish off head `h`. -/
theorem sum_row (h : Fin 8) (f : Fin 128 → EReal) (hf : ∀ r, rh r ≠ h → f r = 0) :
    ∑ r, f r = ∑ m, f (row h m) := by
  refine (Finset.sum_of_injOn (row h) ?_ (fun _ _ => by simp) ?_ (fun _ _ => rfl)).symm
  · intro a _ b _ e
    rw [← rm_row h a, e, rm_row]
  · intro c _ hc
    exact hf c fun e => hc ⟨rm c, by simp, by rw [← e, row_rh]⟩

/-- A sum over all positions whose terms vanish off the patch of `m`. -/
theorem sum_patch (m : Fin 16) (f : Fin 576 → EReal) (hf : ∀ n, patch n ≠ m → f n = 0) :
    ∑ n, f n = ∑ a, ∑ b, f (pix m a b) := by
  rw [← Finset.sum_product' (f := fun a b => f (pix m a b))]
  refine (Finset.sum_of_injOn (fun p : Fin 6 × Fin 6 => pix m p.1 p.2) ?_ (fun _ _ => by simp) ?_ (fun _ _ => rfl)).symm
  · rintro ⟨a, b⟩ _ ⟨a', b'⟩ _ e
    have e := congrArg Fin.val e
    simp only [pix] at e
    refine Prod.ext (Fin.ext ?_) (Fin.ext ?_) <;> simp only <;> omega
  · intro n _ hn
    refine hf n fun e => hn ⟨(⟨(n.val / 24) % 6, by omega⟩, ⟨(n.val % 24) % 6, by omega⟩), by simp, ?_⟩
    have e := congrArg Fin.val e
    simp only [patch] at e
    refine Fin.ext ?_
    simp only [pix]
    omega

/-- The patch of a patch's token. -/
theorem patch_pix (m : Fin 16) (a b : Fin 6) : patch (pix m a b) = m :=
  Fin.ext (by simp only [patch, pix]; omega)

/-- A real that is not negative distributes over a sum. -/
theorem coe_mul_sum {n : ℕ} {r : ℝ} (hr : 0 ≤ r) (f : Fin n → EReal) : ∑ k, (r : EReal) * f k = (r : EReal) * ∑ k, f k := by
  induction n with
  | zero => simp
  | succ n ih =>
    rw [Fin.sum_univ_succ, Fin.sum_univ_succ, ih,
      EReal.left_distrib_of_nonneg_of_ne_top (by exact_mod_cast hr) (EReal.coe_ne_top _)]

/-- The sum against one thirty-sixth on the patch of `m` is the patch's mean. -/
theorem pool_eq (z : Fin 576 → EReal) (m : Fin 16) :
    ∑ n, (if patch n = m then ((1 / 36 : ℝ) : EReal) else 0) * z n = pool z m := by
  rw [sum_patch m _ fun n hn => by rw [if_neg hn, zero_mul]]
  simp only [patch_pix, if_true]
  rw [Finset.sum_congr rfl fun a _ => coe_mul_sum (by norm_num) _, coe_mul_sum (by norm_num)]
  unfold pool
  rw [lit_36, Ideal.div_coe (by norm_num), mul_comm]

end Cert.Cluster

end
-- ==== Proof.Masks.lean ====
/- The kernel's three constant matrices of zeros and ones (or one thirty-sixth), read at an index. -/
module

public import proofs.«01_k».proof.Proof.Sums
public import proofs.«01_k».proof.Proof.Gen.KernelIdeal.Frame
public import Idealize.ShloMosaic.Lib.Pointwise

@[expose] public section

set_option maxRecDepth 16384

noncomputable section

namespace Cert.KernelIdeal.Block

open Idealize.ShloMosaic Cert.KernelIdeal Cert.KernelIdeal.Gen Cert.Cluster

/-- The pooling matrix. -/
def aMat : FVec Ideal S16x576 .f32 :=
  k0_pay7 (F := Ideal) (iota .tc S16x576 32 [0] iota_S16x576_d0_w32) k0_pay2 k0_pay3 k0_pay4 k0_pay5 k0_pay6

/-- The block-diagonal matrix of ones. -/
def bDiag : FVec Ideal S192x192 .f32 :=
  k0_pay10 (F := Ideal) (iota .tc S192x192 32 [0] iota_S192x192_d0_w32) (iota .tc S192x192 32 [1] iota_S192x192_d1_w32)
    24#32 k0_pay8 k0_pay9 0#32

/-- The mask of a row's own channels. -/
def bMask : FVec Ideal S128x192 .f32 := k0_pay14 (F := Ideal) k0_pay11 k0_pay12 k0_pay13

/-- A selection on a comparison of two numbers below 2³². -/
theorem select_eq {a b : BitVec 32} {u v : ℕ} (ha : a = BitVec.ofNat 32 u) (hb : b = BitVec.ofNat 32 v)
    (hu : u < 2 ^ 32) (hv : v < 2 ^ 32) (x y : EReal) :
    Scalar.select (IntOp.cmpi .eq a b) x y = if u = v then x else y := by
  subst ha hb
  by_cases h : u = v
  · subst h
    simp [Scalar.select, IntOp.cmpi]
  · have : ¬BitVec.ofNat 32 u = BitVec.ofNat 32 v := by
      intro e
      have e := congrArg BitVec.toNat e
      rw [BitVec.toNat_ofNat, BitVec.toNat_ofNat, Nat.mod_eq_of_lt hu, Nat.mod_eq_of_lt hv] at e
      exact h e
    rw [if_neg h]
    have e : IntOp.cmpi .eq (BitVec.ofNat 32 u) (BitVec.ofNat 32 v) = 0#1 := by
      show BitVec.ofBool (BitVec.ofNat 32 u == BitVec.ofNat 32 v) = 0#1
      rw [beq_false_of_ne this]; rfl
    rw [e]; rfl

/-- The mask is one at a row's own head. -/
theorem bMask_apply (r : Fin 128) (c : Fin 192) : bMask (ix2 r c) = if rh r = hd c then 1 else 0 := by
  pointwise [bMask, k0_pay14, k0_pay11, k0_pay12, k0_pay13]
  refine (select_eq (u := (rh r).val) (v := (hd c).val) ?_ ?_ (by omega) (by omega) _ _).trans ?_
  · revert r; decide +kernel
  · revert c; decide +kernel
  · simp only [Fin.ext_iff]

/-- The block-diagonal matrix is one at two channels of one head. -/
theorem bDiag_apply (r c : Fin 192) : bDiag (ix2 r c) = if hd r = hd c then 1 else 0 := by
  pointwise [bDiag, k0_pay10, k0_pay8, k0_pay9]
  refine (select_eq (u := (hd r).val) (v := (hd c).val) ?_ ?_ (by omega) (by omega) _ _).trans ?_
  · revert r; decide +kernel
  · revert c; decide +kernel
  · simp only [Fin.ext_iff]

/-- The pooling matrix is one thirty-sixth on a cluster's patch. -/
theorem aMat_apply (m : Fin 16) (n : Fin 576) :
    aMat (ix2 m n) = if patch n = m then ((1 / 36 : ℝ) : EReal) else 0 := by
  pointwise [aMat, k0_pay7, k0_pay2, k0_pay3, k0_pay4, k0_pay5, k0_pay6]
  refine (select_eq (u := (patch n).val) (v := m.val) ?_ rfl (by omega) (by omega) _ _).trans ?_
  · revert n; decide +kernel
  · simp only [Fin.ext_iff]
    rw [IdealRules.named_const.ideal_named_scalar _ _ _ _ rfl]

end Cert.KernelIdeal.Block

end
-- ==== Proof.Item.lean ====
/- What the kernel computes for one image of its block, as functions of vectors, and their values at an index. -/
module

public import proofs.«01_k».proof.Proof.Masks

@[expose] public section

set_option maxRecDepth 16384

noncomputable section

namespace Cert.KernelIdeal.Block

open Idealize.ShloMosaic Cert.KernelIdeal Cert.KernelIdeal.Gen Cert.Cluster

/-- Patch means of every channel. -/
def ctr (z : FVec Ideal S576x192 .f32) : FVec Ideal S16x192 .f32 :=
  matmul dot_S16x576_S576x192_S16x192_1_0_0_1_n_n none aMat z (constant S16x192 .f32 0x00000000#32)

/-- A centre: the mean of its patch. -/
theorem ctr_apply (z : FVec Ideal S576x192 .f32) (m : Fin 16) (c : Fin 192) :
    ctr z (ix2 m c) = pool (fun n => z (ix2 n c)) m := by
  rw [← pool_eq]
  pointwise [ctr]
  simp only [aMat_apply, lit_0, add_zero, zero_add]

/-- Centres over their lengths, by head. -/
def ctrN (z : FVec Ideal S16x192 .f32) : FVec Ideal S16x192 .f32 :=
  mulf z (rsqrt (maximumf (matmul dot_S16x192_S192x192_S16x192_1_0_0_1_n_n none (mulf z z) bDiag
    (constant S16x192 .f32 0x00000000#32)) (broadcast S16x192 (Scalar.ofBits .f32 0x179ABE15#32))))

/-- A centre, each head's part divided by its length. -/
theorem ctrN_apply (z : FVec Ideal S16x192 .f32) (m : Fin 16) (c : Fin 192) :
    ctrN z (ix2 m c) = z (ix2 m c) * Ideal.rsqrt (max (sq fun d => z (ix2 m (ch (hd c) d))) (lit 0x179ABE15#32)) := by
  pointwise [ctrN]
  simp only [bDiag_apply, lit_0, add_zero, zero_add]
  rw [sum_head (hd c) _ fun c' h => by rw [if_neg h, mul_zero]]
  simp only [hd_ch, if_true, mul_one]
  rfl

/-- Eight copies of 16 rows. -/
def tile8 (z : FVec Ideal S16x192 .f32) : FVec Ideal S128x192 .f32 :=
  concatenate S128x192 0 [⟨S16x192, z⟩, ⟨S16x192, z⟩, ⟨S16x192, z⟩, ⟨S16x192, z⟩, ⟨S16x192, z⟩, ⟨S16x192, z⟩, ⟨S16x192, z⟩, ⟨S16x192, z⟩] concatenates_S16x192_S16x192_S16x192_S16x192_S16x192_S16x192_S16x192_S16x192_S128x192_d0

/-- The centres, once for each head. -/
theorem tile8_apply (z : FVec Ideal S16x192 .f32) (r : Fin 128) (c : Fin 192) :
    tile8 z (ix2 r c) = z (ix2 (rm r) c) := by
  unfold tile8
  exact concatenate_ofFn_apply (s₁ := S16x192) 0 (fun _ : Fin 8 => z)
    concatenates_S16x192_S16x192_S16x192_S16x192_S16x192_S16x192_S16x192_S16x192_S128x192_d0 rfl 16 rfl _ (rh r) rfl
    (ix2 (rm r) c) rfl (by
      intro b hb
      match b with
      | 0 => exact absurd rfl hb
      | 1 => rfl)

/-- The scores of the 128 rows. -/
def scoreM (cn : FVec Ideal S16x192 .f32) (xn : FVec Ideal S576x192 .f32) (sa sb : Ideal .f32) : FVec Ideal S128x576 .f32 :=
  addf (broadcast S128x576 sb) (mulf (broadcast S128x576 sa) (exp (subf (broadcast S128x576 (Scalar.ofBits .f32 0x00000000#32))
    (sqrt (maximumf (subf (broadcast S128x576 (Scalar.ofBits .f32 0x40000000#32))
      (mulf (broadcast S128x576 (Scalar.ofBits .f32 0x40000000#32))
        (matmul dot_S128x192_S576x192_S128x576_1_1_0_0_n_n none (mulf (tile8 cn) bMask) xn
          (constant S128x576 .f32 0x00000000#32)))) (broadcast S128x576 (Scalar.ofBits .f32 0x00000000#32)))))))

/-- The score of a centre and a token, before the leaky step. -/
theorem scoreM_apply (cn : FVec Ideal S16x192 .f32) (xn : FVec Ideal S576x192 .f32) (sa sb : Ideal .f32)
    (r : Fin 128) (n : Fin 576) :
    scoreM cn xn sa sb (ix2 r n) = sb + sa * Ideal.exp (-(Ideal.sqrt (max (lit 0x40000000#32 - lit 0x40000000#32 *
      ∑ d, cn (ix2 (rm r) (ch (rh r) d)) * xn (ix2 n (ch (rh r) d))) 0))) := by
  pointwise [scoreM]
  simp only [bMask_apply, tile8_apply, lit_0, add_zero, zero_add, zero_sub]
  rw [sum_head (rh r) _ fun c' h => by rw [if_neg (Ne.symm h), mul_zero, zero_mul]]
  simp only [hd_ch, if_true, mul_one]

/-- The leaky rectifier, and the rows split by head. -/
def leakyM (s : FVec Ideal S128x576 .f32) : FVec Ideal S8x16x576 .f32 :=
  shapeCast S8x16x576 (select (cmpf .oge s (broadcast S128x576 (Scalar.ofBits .f32 0x00000000#32))) s
    (mulf (broadcast S128x576 (Scalar.ofBits .f32 0x3E4CCCCD#32)) s)) shapeCasts_S128x576_S8x16x576

/-- The leaky step. -/
theorem leakyM_apply (s : FVec Ideal S128x576 .f32) (h : Fin 8) (m : Fin 16) (n : Fin 576) :
    leakyM s (ix3 h m n) = leaky (s (ix2 (row h m) n)) := by
  pointwise [leakyM]
  rfl

end Cert.KernelIdeal.Block

end
-- ==== Proof.First.lean ====
/- The first of the highest scores: it exists, it is the only one, and the kernel's way of finding it (the least index
   among those that reach the maximum) finds it. -/
module

public import proofs.«01_k».proof.Proof.Masks

@[expose] public section

noncomputable section

namespace Cert.Cluster

open Idealize.ShloMosaic

/-- Some cluster wins. -/
theorem exists_wins (s : Fin 16 → EReal) : ∃ m, Wins s m := by
  classical
  obtain ⟨k, -, hk⟩ := Finset.exists_max_image (Finset.univ : Finset (Fin 16)) s ⟨0, by simp⟩
  have hne : (Finset.univ.filter fun m => ∀ j, s j ≤ s m).Nonempty := ⟨k, by simpa using fun j => hk j (by simp)⟩
  refine ⟨Finset.min' _ hne, ?_, ?_⟩
  · simpa using Finset.min'_mem _ hne
  · intro j hj
    have h1 : ∀ i, s i ≤ s (Finset.min' _ hne) := by simpa using Finset.min'_mem _ hne
    refine lt_of_le_of_ne (h1 j) fun e => ?_
    exact absurd (Finset.min'_le _ j (by simpa using fun i => e ▸ h1 i)) (not_le.2 hj)

/-- Only one cluster wins. -/
theorem wins_unique {s : Fin 16 → EReal} {m k : Fin 16} (hm : Wins s m) (hk : Wins s k) : m = k := by
  rcases lt_trichotomy m k with h | h | h
  · exact absurd (hm.1 k) (not_le.2 (hk.2 m h))
  · exact h
  · exact absurd (hk.1 m) (not_le.2 (hm.2 k h))

/-- The mask at cluster `m`, when `k` wins. -/
theorem pick_of_wins {s : Fin 16 → EReal} {k : Fin 16} (hk : Wins s k) (m : Fin 16) :
    pick s m = if m.val = k.val then 1 else 0 := by
  unfold pick
  by_cases h : m = k
  · subst h; rw [if_pos hk, if_pos rfl]
  · rw [if_neg fun e => h (wins_unique e hk), if_neg fun e => h (Fin.ext e)]

/-- The least index among those of the maximum is the winner. -/
theorem fold_min_wins {s : Fin 16 → EReal} {k : Fin 16} (hk : Wins s k) :
    Finset.fold IntOp.minsi (2147483647#32) (fun x : Fin 16 =>
      if Finset.fold max (lit 0xFF800000#32) s Finset.univ ≤ s x then BitVec.ofNat 32 x.val else 16#32) Finset.univ
      = BitVec.ofNat 32 k.val := by
  have hM : ∀ x, Finset.fold max (lit 0xFF800000#32) s Finset.univ ≤ s x ↔ ∀ j, s j ≤ s x := by
    intro x
    rw [Finset.fold_max_le, lit_bot]
    simp
  simp only [hM]
  apply BitVec.eq_of_toInt_eq
  have hop : ∀ x y : BitVec 32, (IntOp.minsi x y).toInt = min x.toInt y.toInt := by
    intro x y
    unfold IntOp.minsi
    simp only [BitVec.sle, decide_eq_true_eq, BitVec.slt]
    split_ifs <;> omega
  rw [← Finset.fold_hom (m := BitVec.toInt) (op' := min) hop]
  have hN : ∀ x : Fin 16, (BitVec.ofNat 32 x.val).toInt = (x.val : ℤ) := by decide
  apply le_antisymm
  · rw [Finset.fold_min_le]
    exact Or.inr ⟨k, by simp, by rw [if_pos hk.1]⟩
  · rw [Finset.le_fold_min, hN]
    refine ⟨by rw [show (2147483647#32).toInt = 2147483647 by decide]; omega, fun x _ => ?_⟩
    split_ifs with h
    · rw [hN]
      by_contra hx
      have hx : x < k := by rw [Fin.lt_def]; omega
      exact absurd (h k) (not_le.2 (hk.2 x hx))
    · rw [show (16#32).toInt = 16 by decide]; omega

end Cert.Cluster

end
-- ==== Proof.Choice.lean ====
/- The choice of a cluster for every position, what the clusters hold and what the positions read back, as the kernel
   computes them for one image: functions of vectors, and their values at an index. -/
module

public import proofs.«01_k».proof.Proof.Item
public import proofs.«01_k».proof.Proof.First

@[expose] public section

set_option maxRecDepth 16384

noncomputable section

namespace Cert.KernelIdeal.Block

open Idealize.ShloMosaic Cert.KernelIdeal Cert.KernelIdeal.Gen Cert.Cluster

/-- The channels' column number. -/
def mIota : IVec S8x16x576 32 := iota .tc S8x16x576 32 [1] iota_S8x16x576_d1_w32

/-- The mask of the winning cluster. -/
def maskM (s : FVec Ideal S8x16x576 .f32) : FVec Ideal S8x16x576 .f32 :=
  select (cmpi .eq mIota (broadcastTo S8x16x576 (shapeCast S8x1x576 (multiReductionI .minsi [1] S8x576
    (select (cmpf .oge s (broadcastTo S8x16x576 (shapeCast S8x1x576
      (multiReduction .maximumf [1] S8x576 s 0xFF800000#32 reduces_S8x16x576_S8x576 (.inl rfl) rfl)
      shapeCasts_S8x576_S8x1x576) broadcasts_S8x1x576_S8x16x576)) mIota (broadcast S8x16x576 16#32))
    2147483647#32 reduces_S8x16x576_S8x576 rfl) shapeCasts_S8x576_S8x1x576) broadcasts_S8x1x576_S8x16x576))
    (broadcast S8x16x576 (Scalar.ofBits .f32 0x3F800000#32)) (broadcast S8x16x576 (Scalar.ofBits .f32 0x00000000#32))

/-- The mask: one at the first centre with the greatest score, zero elsewhere. -/
theorem maskM_apply (s : FVec Ideal S8x16x576 .f32) (h : Fin 8) (m : Fin 16) (n : Fin 576) :
    maskM s (ix3 h m n) = pick (fun k => s (ix3 h k n)) m := by
  obtain ⟨k, hk⟩ := exists_wins fun k => s (ix3 h k n)
  rw [pick_of_wins hk]
  pointwise [maskM, mIota]
  exact select_eq rfl (fold_min_wins hk) (by omega) (by omega) _ _

/-- The rows of the weighted one-hot. -/
def maskedM (s : FVec Ideal S8x16x576 .f32) : FVec Ideal S128x576 .f32 :=
  shapeCast S128x576 (mulf s (maskM s)) shapeCasts_S8x16x576_S128x576

/-- The scores where the mask is one. -/
theorem maskedM_apply (s : FVec Ideal S8x16x576 .f32) (r : Fin 128) (n : Fin 576) :
    maskedM s (ix2 r n) = s (ix3 (rh r) (rm r) n) * maskM s (ix3 (rh r) (rm r) n) := by
  pointwise [maskedM]
  rfl

/-- The counts of the rows. -/
def cntM (s : FVec Ideal S8x16x576 .f32) : FVec Ideal S128x1 .f32 :=
  shapeCast S128x1 (multiReduction .add [2] S8x16 (maskM s) 0x00000000#32 reduces_S8x16x576_S8x16 (.inl rfl) rfl)
    shapeCasts_S8x16_S128x1

/-- How many tokens a centre holds. -/
theorem cntM_apply (s : FVec Ideal S8x16x576 .f32) (r : Fin 128) :
    cntM s (ix2 r 0) = ∑ n, maskM s (ix3 (rh r) (rm r) n) := by
  pointwise [cntM]
  rfl

/-- What the clusters hold. -/
def heldM (s : FVec Ideal S8x16x576 .f32) (vf : FVec Ideal S576x192 .f32) : FVec Ideal S128x192 .f32 :=
  mulf (divf (addf (matmul dot_S128x576_S576x192_S128x192_1_0_0_1_n_n none (maskedM s) vf
      (constant S128x192 .f32 0x00000000#32)) (tile8 (ctr vf)))
    (broadcastTo S128x192 (addf (cntM s) (broadcast S128x1 (Scalar.ofBits .f32 0x3F800000#32))) broadcasts_S128x1_S128x192)) bMask

/-- What a centre holds, kept in its own head's columns. -/
theorem heldM_apply (s : FVec Ideal S8x16x576 .f32) (vf : FVec Ideal S576x192 .f32) (r : Fin 128) (c : Fin 192) :
    heldM s vf (ix2 r c) = (if rh r = hd c then held (fun n m => s (ix3 (hd c) m n)) (fun n => vf (ix2 n c))
      (pool fun n => vf (ix2 n c)) (rm r) else 0) := by
  pointwise [heldM]
  simp only [bMask_apply, maskedM_apply, maskM_apply, cntM_apply, tile8_apply, ctr_apply]
  by_cases h : rh r = hd c
  · rw [if_pos h, if_pos h, mul_one, h]
    unfold held
    rw [lit_1]
  · rw [if_neg h, if_neg h, mul_zero]

/-- What the positions read back. -/
def yM (s : FVec Ideal S8x16x576 .f32) (vf : FVec Ideal S576x192 .f32) : FVec Ideal S576x192 .f32 :=
  matmul dot_S128x576_S128x192_S576x192_0_0_1_1_n_n none (maskedM s) (heldM s vf) (constant S576x192 .f32 0x00000000#32)

/-- What a token is given back. -/
theorem yM_apply (s : FVec Ideal S8x16x576 .f32) (vf : FVec Ideal S576x192 .f32) (n : Fin 576) (c : Fin 192) :
    yM s vf (ix2 n c) = back (fun n m => s (ix3 (hd c) m n)) (fun n => vf (ix2 n c)) (pool fun n => vf (ix2 n c)) n := by
  pointwise [yM]
  simp only [heldM_apply, maskedM_apply, maskM_apply]
  rw [sum_row (hd c) _ fun r h => by rw [if_neg h, mul_zero]]
  simp only [rh_row, rm_row, if_true]
  rfl

end Cert.KernelIdeal.Block

end
-- ==== Proof.Block.lean ====
/- What the kernel computes for one block of four images, as a function of the block's operands. -/
module

public import proofs.«01_k».proof.Proof.Choice
public import Idealize.ShloMosaic.Lib.Pipeline.Value

@[expose] public section

set_option maxRecDepth 16384

noncomputable section

namespace Cert.KernelIdeal.Block

open Idealize.ShloMosaic Cert.KernelIdeal Cert.KernelIdeal.Gen Cert.Cluster

/-! ## The row-wise parts -/

/-- The row of position `n` of image `i` among the block's 2304 rows. -/
def br (i : Fin 4) (n : Fin 576) : Fin 2304 := ⟨i.val * 576 + n.val, by omega⟩

/-- A row of a block's rows. -/
abbrev rowOf {k : ℕ} (z : FVec Ideal ⟨2, ![2304, k]⟩ .f32) (r : Fin 2304) (c : Fin k) : EReal := z (ix2 r c)

/-- A vector stored as one row. -/
abbrev vecOf {k : ℕ} (z : FVec Ideal ⟨2, ![1, k]⟩ .f32) (c : Fin k) : EReal := z (ix2 0 c)

/-- A matrix as a function of two indices. -/
abbrev matOf {j k : ℕ} (z : FVec Ideal ⟨2, ![j, k]⟩ .f32) (a : Fin j) (c : Fin k) : EReal := z (ix2 a c)

/-- The means of the rows. -/
def meanV (z : FVec Ideal S2304x384 .f32) : FVec Ideal S2304x1 .f32 :=
  divf (shapeCast S2304x1 (multiReduction .add [1] S2304 z 0x00000000#32 reduces_S2304x384_S2304 (.inl rfl) rfl)
    shapeCasts_S2304_S2304x1) (broadcast S2304x1 (Scalar.ofBits .f32 0x43C00000#32))

/-- A row's mean. -/
theorem meanV_apply (z : FVec Ideal S2304x384 .f32) (r : Fin 2304) : meanV z (ix2 r 0) = mean (rowOf z r) := by
  pointwise [meanV]
  rfl

/-- The rows less their means. -/
def centV (z : FVec Ideal S2304x384 .f32) : FVec Ideal S2304x384 .f32 :=
  subf z (broadcastTo S2304x384 (meanV z) broadcasts_S2304x1_S2304x384)

/-- A row less its mean. -/
theorem centV_apply (z : FVec Ideal S2304x384 .f32) (r : Fin 2304) (k : Fin 384) :
    centV z (ix2 r k) = z (ix2 r k) - mean (rowOf z r) := by
  pointwise [centV]
  rw [meanV_apply]

/-- Layer norm of the rows. -/
def lnV (z : FVec Ideal S2304x384 .f32) (g b : FVec Ideal S1x384 .f32) : FVec Ideal S2304x384 .f32 :=
  addf (mulf (mulf (centV z) (broadcastTo S2304x384 (rsqrt (addf (meanV (mulf (centV z) (centV z)))
    (broadcast S2304x1 (Scalar.ofBits .f32 0x3727C5AC#32)))) broadcasts_S2304x1_S2304x384))
    (broadcastTo S2304x384 (shapeCast S1x384 g shapeCasts_S1x384_S1x384) broadcasts_S1x384_S2304x384))
    (broadcastTo S2304x384 (shapeCast S1x384 b shapeCasts_S1x384_S1x384) broadcasts_S1x384_S2304x384)

/-- The layer norm of a row. -/
theorem lnV_apply (z : FVec Ideal S2304x384 .f32) (g b : FVec Ideal S1x384 .f32) (r : Fin 2304) (k : Fin 384) :
    lnV z g b (ix2 r k) = ln (rowOf z r) (vecOf g) (vecOf b) k := by
  rw [← ln_eq]
  pointwise [lnV]
  rw [meanV_apply]
  simp only [centV_apply]
  unfold var mean rowOf
  pointwise
  simp only [centV_apply]
  rfl

/-- The block's images, one row each position. -/
def rowsV (x : FVec Ideal S4x576x384 .f32) : FVec Ideal S2304x384 .f32 := k0_pay15 x

/-- The four images' tokens, one below the other. -/
theorem rowsV_apply (x : FVec Ideal S4x576x384 .f32) (i : Fin 4) (n : Fin 576) (k : Fin 384) :
    rowsV x (ix2 (br i n) k) = x (ix3 i n k) := by
  pointwise [rowsV, k0_pay15, br]

/-- A projection of the rows. -/
def projV (z : FVec Ideal S2304x384 .f32) (w : FVec Ideal S192x384 .f32) (b : FVec Ideal S1x192 .f32) :
    FVec Ideal S2304x192 .f32 := k0_pay18 z w b

/-- A projection with its bias. -/
theorem projV_apply (z : FVec Ideal S2304x384 .f32) (w : FVec Ideal S192x384 .f32) (b : FVec Ideal S1x192 .f32)
    (r : Fin 2304) (c : Fin 192) : projV z w b (ix2 r c) = (∑ k, z (ix2 r k) * w (ix2 c k)) + b (ix2 0 c) := by
  pointwise [projV, k0_pay18]

/-- The unit features. -/
def unitV (f : FVec Ideal S2304x192 .f32) : FVec Ideal S2304x192 .f32 := k0_pay19 bDiag f

/-- A row of features, each head's part divided by its length. -/
theorem unitV_apply (f : FVec Ideal S2304x192 .f32) (r : Fin 2304) (c : Fin 192) :
    unitV f (ix2 r c) = f (ix2 r c) * Ideal.rsqrt (max (sq fun d => f (ix2 r (ch (hd c) d))) (lit 0x179ABE15#32)) := by
  pointwise [unitV, k0_pay19]
  simp only [bDiag_apply]
  rw [sum_head (hd c) _ fun c' h => by rw [if_neg h, mul_zero]]
  simp only [hd_ch, if_true, mul_one]
  rfl

/-! ## The four images -/

/-- The 576 rows of one image. -/
def cut (i : Fin 4) (z : FVec Ideal S2304x192 .f32) : FVec Ideal S576x192 .f32 := fun j => z (ix2 (br i (j 0)) (j 1))

/-- An image's rows of the block. -/
theorem cut_apply (i : Fin 4) (z : FVec Ideal S2304x192 .f32) (n : Fin 576) (c : Fin 192) :
    cut i z (ix2 n c) = z (ix2 (br i n) c) := rfl

/-- The first image's rows. -/
theorem cut0 (z : FVec Ideal S2304x192 .f32) :
    extractStridedSlice S576x192 ![0, 0] z slices_S2304x192_o0_0_S576x192 = cut 0 z := by
  funext j
  rw [eq_ix2 j]
  pointwise
  exact congrArg (fun a => z (ix2 a (j 1))) (Fin.ext (by simp [br]))

/-- The second image's rows. -/
theorem cut1 (z : FVec Ideal S2304x192 .f32) :
    extractStridedSlice S576x192 ![576, 0] z slices_S2304x192_o576_0_S576x192 = cut 1 z := by
  funext j
  rw [eq_ix2 j]
  pointwise; rfl

/-- The third image's rows. -/
theorem cut2 (z : FVec Ideal S2304x192 .f32) :
    extractStridedSlice S576x192 ![1152, 0] z slices_S2304x192_o1152_0_S576x192 = cut 2 z := by
  funext j
  rw [eq_ix2 j]
  pointwise; rfl

/-- The fourth image's rows. -/
theorem cut3 (z : FVec Ideal S2304x192 .f32) :
    extractStridedSlice S576x192 ![1728, 0] z slices_S2304x192_o1728_0_S576x192 = cut 3 z := by
  funext j
  rw [eq_ix2 j]
  pointwise; rfl

/-- What one image's positions read back, from the block's features, unit features and values. -/
def itemY (f u v : FVec Ideal S2304x192 .f32) (sa sb : Ideal .f32) (i : Fin 4) : FVec Ideal S576x192 .f32 :=
  yM (leakyM (scoreM (ctrN (ctr (cut i f))) (cut i u) sa sb)) (cut i v)

/-- The four images' rows. -/
def allY (f u v : FVec Ideal S2304x192 .f32) (sa sb : Ideal .f32) : FVec Ideal S2304x192 .f32 :=
  concatenate S2304x192 0 [⟨S576x192, itemY f u v sa sb 0⟩, ⟨S576x192, itemY f u v sa sb 1⟩, ⟨S576x192, itemY f u v sa sb 2⟩, ⟨S576x192, itemY f u v sa sb 3⟩] concatenates_S576x192_S576x192_S576x192_S576x192_S2304x192_d0

/-- The images' cluster outputs, one below the other. -/
theorem allY_apply (f u v : FVec Ideal S2304x192 .f32) (sa sb : Ideal .f32) (i : Fin 4) (n : Fin 576) (c : Fin 192) :
    allY f u v sa sb (ix2 (br i n) c) = itemY f u v sa sb i (ix2 n c) := by
  unfold allY
  exact concatenate_ofFn_apply (s₁ := S576x192) 0 (fun i : Fin 4 => itemY f u v sa sb i)
    concatenates_S576x192_S576x192_S576x192_S576x192_S2304x192_d0 rfl 576 rfl _ i
    (by show (i.val * 576 + n.val) / 576 = i.val; omega)
    (ix2 n c) (by show n.val = (i.val * 576 + n.val) % 576; omega) (by
      intro b hb
      match b with
      | 0 => exact absurd rfl hb
      | 1 => rfl)

/-! ## The rest of the layer -/

/-- The input plus the projected rows. -/
def midV (x : FVec Ideal S2304x384 .f32) (y : FVec Ideal S2304x192 .f32) (w : FVec Ideal S384x192 .f32)
    (b : FVec Ideal S1x384 .f32) : FVec Ideal S2304x384 .f32 :=
  addf (addf x (matmul dot_S2304x192_S384x192_S2304x384_1_1_0_0_n_n none y w (constant S2304x384 .f32 0x00000000#32)))
    (broadcastTo S2304x384 (shapeCast S1x384 b shapeCasts_S1x384_S1x384) broadcasts_S1x384_S2304x384)

/-- The first residual: the input, the projected cluster output and the bias. -/
theorem midV_apply (x : FVec Ideal S2304x384 .f32) (y : FVec Ideal S2304x192 .f32) (w : FVec Ideal S384x192 .f32)
    (b : FVec Ideal S1x384 .f32) (r : Fin 2304) (k : Fin 384) :
    midV x y w b (ix2 r k) = x (ix2 r k) + ((∑ c, y (ix2 r c) * w (ix2 k c)) + b (ix2 0 k)) := by
  pointwise [midV]
  rw [add_assoc]

/-- The perceptron, added to its input. -/
def mlpV (x z : FVec Ideal S2304x384 .f32) (w1 : FVec Ideal S1536x384 .f32) (b1 : FVec Ideal S1x1536 .f32)
    (w2 : FVec Ideal S384x1536 .f32) (b2 : FVec Ideal S1x384 .f32) : FVec Ideal S4x576x384 .f32 :=
  k0_pay1 x z w1 b1 w2 b2

/-- The second residual: the middle rows and what the two dense layers make of them. -/
theorem mlpV_apply (x z : FVec Ideal S2304x384 .f32) (w1 : FVec Ideal S1536x384 .f32) (b1 : FVec Ideal S1x1536 .f32)
    (w2 : FVec Ideal S384x1536 .f32) (b2 : FVec Ideal S1x384 .f32) (i : Fin 4) (n : Fin 576) (k : Fin 384) :
    mlpV x z w1 b1 w2 b2 (ix3 i n k) = x (ix2 (br i n) k) +
      ((∑ j, gelu ((∑ c, z (ix2 (br i n) c) * w1 (ix2 j c)) + b1 (ix2 0 j)) * w2 (ix2 k j)) + b2 (ix2 0 k)) := by
  simp only [← gelu_eq]
  rw [lit_1]
  pointwise [mlpV, k0_pay1]
  rfl

end Cert.KernelIdeal.Block

end
-- ==== Proof.Scores.lean ====
/- The kernel's scores are the layer's, for an image whose features and centres are not degenerate. -/
module

public import proofs.«01_k».proof.Proof.Block

@[expose] public section

set_option maxRecDepth 16384

noncomputable section

namespace Cert.Cluster

open Idealize.ShloMosaic

/-- A patch mean of reals is a real. -/
theorem pool_real (w : Fin 576 → ℝ) (m : Fin 16) : ∃ r : ℝ, pool (fun n => (w n : EReal)) m = (r : EReal) := by
  unfold pool
  simp only [coe_sum]
  rw [lit_36, Ideal.div_coe (by norm_num), ← EReal.coe_mul]
  exact ⟨_, rfl⟩

/-- The centres of finite features are finite. -/
theorem cvec_finite (P : Par) {X : Fin 576 → Fin 384 → EReal} (hX : Good P X) (h : Fin 8) (m : Fin 16) :
    sq (cvec P X h m) < ⊤ := by
  have hd : ∀ d, ∃ r : ℝ, cvec P X h m d = (r : EReal) := by
    intro d
    have hz : ∀ n, ∃ r : ℝ, feat P X n (ch h d) = (r : EReal) := by
      intro n
      obtain ⟨w, hw⟩ := finite_of_sq (hX.1 h n).2
      exact ⟨w d, congrFun hw d⟩
    choose w hw using hz
    unfold cvec
    simp only [hw]
    exact pool_real w m
  choose w hw using hd
  have : sq (cvec P X h m) = ((∑ d, w d * w d : ℝ) : EReal) := by
    unfold sq
    rw [← coe_sum]
    simp [hw, EReal.coe_mul]
  rw [this]
  exact EReal.coe_lt_top _

/-- The score by the inner product of the unit vectors. -/
theorem score_eq (P : Par) {X : Fin 576 → Fin 384 → EReal} (hX : Good P X) (h : Fin 8) (n : Fin 576) (m : Fin 16) :
    leaky (P.sb + P.sa * Ideal.exp (-(Ideal.sqrt (max (lit 0x40000000#32 - lit 0x40000000#32 *
      ∑ d, unit (cvec P X h m) d * unit (fvec P X h n) d) 0)))) = scores P X h n m := by
  rw [dist_eq (hX.2 h m) (cvec_finite P hX h m) (hX.1 h n).1 (hX.1 h n).2]
  rfl

end Cert.Cluster

namespace Cert.KernelIdeal.Block

open Idealize.ShloMosaic Cert.KernelIdeal Cert.KernelIdeal.Gen Cert.Cluster

/-- The scores of image `i`, when the block's features are those of an image `X`. -/
theorem scores_apply (P : Par) {X : Fin 576 → Fin 384 → EReal} (hX : Good P X) (f : FVec Ideal S2304x192 .f32) (i : Fin 4)
    (hf : ∀ n c, f (ix2 (br i n) c) = feat P X n c) (h : Fin 8) (m : Fin 16) (n : Fin 576) :
    leakyM (scoreM (ctrN (ctr (cut i f))) (cut i (unitV f)) P.sa P.sb) (ix3 h m n) = scores P X h n m := by
  rw [leakyM_apply, scoreM_apply, ← score_eq P hX, rh_row, rm_row]
  have h1 : ∀ d, ctrN (ctr (cut i f)) (ix2 m (ch h d)) = unit (cvec P X h m) d := by
    intro d
    rw [← unit_eq _ (hX.2 h m), ctrN_apply]
    simp only [ctr_apply, cut_apply, hf, hd_ch]
    rfl
  have h2 : ∀ d, cut i (unitV f) (ix2 n (ch h d)) = unit (fvec P X h n) d := by
    intro d
    rw [← unit_eq _ (hX.1 h n).1, cut_apply, unitV_apply]
    simp only [hf, hd_ch]
    rfl
  simp only [h1, h2]

/-- What image `i` reads back, when the block's features and values are those of an image `X`. -/
theorem itemY_apply (P : Par) {X : Fin 576 → Fin 384 → EReal} (hX : Good P X) (f v : FVec Ideal S2304x192 .f32) (i : Fin 4)
    (hf : ∀ n c, f (ix2 (br i n) c) = feat P X n c) (hv : ∀ n c, v (ix2 (br i n) c) = vals P X n c)
    (n : Fin 576) (c : Fin 192) :
    itemY f (unitV f) v P.sa P.sb i (ix2 n c) = att P X n c := by
  unfold itemY att
  rw [yM_apply]
  simp only [scores_apply P hX f i hf, cut_apply, hv]

end Cert.KernelIdeal.Block

end
-- ==== Proof.Printed.lean ====
/- The block's result is the layer of each of its images. -/
module

public import proofs.«01_k».proof.Proof.Block

@[expose] public section

set_option maxRecDepth 16384

noncomputable section

namespace Cert.KernelIdeal.Block

open Idealize.ShloMosaic Cert.KernelIdeal Cert.KernelIdeal.Gen Cert.Cluster

variable (x0 : Vec Ideal S4x576x384 .f32) (x1 : Vec Ideal S1x384 .f32) (x2 : Vec Ideal S1x384 .f32) (x3 : Vec Ideal S1x384 .f32) (x4 : Vec Ideal S1x384 .f32) (x5 : Vec Ideal S192x384 .f32) (x6 : Vec Ideal S1x192 .f32) (x7 : Vec Ideal S192x384 .f32) (x8 : Vec Ideal S1x192 .f32) (x9 : Vec Ideal S1x1 .f32) (x10 : Vec Ideal S1x1 .f32) (x11 : Vec Ideal S384x192 .f32) (x12 : Vec Ideal S1x384 .f32) (x13 : Vec Ideal S1536x384 .f32) (x14 : Vec Ideal S1x1536 .f32) (x15 : Vec Ideal S384x1536 .f32) (x16 : Vec Ideal S1x384 .f32)

/-- The features of the block. -/
def blkF : FVec Ideal S2304x192 .f32 := projV (lnV (rowsV x0) x1 x2) x5 x6

/-- The values of the block. -/
def blkV : FVec Ideal S2304x192 .f32 := projV (lnV (rowsV x0) x1 x2) x7 x8

/-- What the block's positions read back. -/
def blkY : FVec Ideal S2304x192 .f32 :=
  allY (blkF x0 x1 x2 x5 x6) (unitV (blkF x0 x1 x2 x5 x6)) (blkV x0 x1 x2 x7 x8) (x9 (ix2 0 0)) (x10 (ix2 0 0))

/-- The block's input plus the projected values. -/
def blkM : FVec Ideal S2304x384 .f32 := midV (rowsV x0) (blkY x0 x1 x2 x5 x6 x7 x8 x9 x10) x11 x12

/-- The block's result from its operands. -/
def blkO : FVec Ideal S4x576x384 .f32 :=
  mlpV (blkM x0 x1 x2 x5 x6 x7 x8 x9 x10 x11 x12) (lnV (blkM x0 x1 x2 x5 x6 x7 x8 x9 x10 x11 x12) x3 x4) x13 x14 x15 x16

/-! ## The printed block is this -/

/-! A whole operand is read as itself. -/

/-- The offset at the origin of a matrix. -/
theorem zero2 : (![0, 0] : Fin 2 → Nat) = fun _ => 0 := by decide

/-- The offset at the origin of an array of three axes. -/
theorem zero3 : (![0, 0, 0] : Fin 3 → Nat) = fun _ => 0 := by decide

/-- A load of the block of four images reads all of it. -/
theorem ld_0 (x : Vec Ideal S4x576x384 .f32) : View.ld x r0_0 = x := View.ld_unit_zero zero3 _ x

/-- A load of one of the rows of 384 entries reads all of it. -/
theorem ld_1 (x : Vec Ideal S1x384 .f32) : View.ld x r0_1 = x := View.ld_unit_zero zero2 _ x

/-- A load of one of the 192 by 384 matrices reads all of it. -/
theorem ld_2 (x : Vec Ideal S192x384 .f32) : View.ld x r0_2 = x := View.ld_unit_zero zero2 _ x

/-- A load of one of the rows of 192 entries reads all of it. -/
theorem ld_3 (x : Vec Ideal S1x192 .f32) : View.ld x r0_3 = x := View.ld_unit_zero zero2 _ x

/-- A load of one of the one by one matrices reads all of it. -/
theorem ld_4 (x : Vec Ideal S1x1 .f32) : View.ld x r0_4 = x := View.ld_unit_zero zero2 _ x

/-- A load of one of the 384 by 192 matrices reads all of it. -/
theorem ld_5 (x : Vec Ideal S384x192 .f32) : View.ld x r0_5 = x := View.ld_unit_zero zero2 _ x

/-- A load of the 1536 by 384 matrix reads all of it. -/
theorem ld_6 (x : Vec Ideal S1536x384 .f32) : View.ld x r0_6 = x := View.ld_unit_zero zero2 _ x

/-- A load of the row of 1536 entries reads all of it. -/
theorem ld_7 (x : Vec Ideal S1x1536 .f32) : View.ld x r0_7 = x := View.ld_unit_zero zero2 _ x

/-- A load of the 384 by 1536 matrix reads all of it. -/
theorem ld_8 (x : Vec Ideal S384x1536 .f32) : View.ld x r0_8 = x := View.ld_unit_zero zero2 _ x

/-- The entry of a one by one matrix. -/
theorem at00 (x : FVec Ideal S1x1 .f32) : extractAt ![0, 0] x inpos_S1x1_p0_0 = x (ix2 0 0) := by
  pointwise

/-- The normalised rows, as printed. -/
theorem xn_eq : k0_pay54 x0 x1 x2 x3 x4 x5 x6 x7 x8 x9 x10 x11 x12 x13 x14 x15 x16 = lnV (rowsV x0) x1 x2 := by
  unfold k0_pay54
  simp only [ld_0, ld_1, ld_2, ld_3, ld_4, ld_5, ld_6, ld_7, ld_8]
  rfl

/-- The block's features. -/
theorem f_eq : k0_pay55 x0 x1 x2 x3 x4 x5 x6 x7 x8 x9 x10 x11 x12 x13 x14 x15 x16 = blkF x0 x1 x2 x5 x6 := by
  unfold k0_pay55
  simp only [ld_0, ld_1, ld_2, ld_3, ld_4, ld_5, ld_6, ld_7, ld_8]
  rfl

/-- The block's values. -/
theorem v_eq : k0_pay56 x0 x1 x2 x3 x4 x5 x6 x7 x8 x9 x10 x11 x12 x13 x14 x15 x16 = blkV x0 x1 x2 x7 x8 := by
  unfold k0_pay56
  rw [xn_eq]
  simp only [ld_0, ld_1, ld_2, ld_3, ld_4, ld_5, ld_6, ld_7, ld_8]
  rfl

/-- The block's features, divided by their lengths. -/
theorem u_eq : k0_pay57 x0 x1 x2 x3 x4 x5 x6 x7 x8 x9 x10 x11 x12 x13 x14 x15 x16 = unitV (blkF x0 x1 x2 x5 x6) := by
  unfold k0_pay57
  rw [f_eq]
  rfl

/-- The first image's cluster output. -/
theorem y0_eq : k0_pay58 x0 x1 x2 x3 x4 x5 x6 x7 x8 x9 x10 x11 x12 x13 x14 x15 x16 = itemY (blkF x0 x1 x2 x5 x6) (unitV (blkF x0 x1 x2 x5 x6)) (blkV x0 x1 x2 x7 x8)
    (x9 (ix2 0 0)) (x10 (ix2 0 0)) 0 := by
  unfold k0_pay58 itemY
  rw [xn_eq, f_eq]
  simp only [ld_0, ld_1, ld_2, ld_3, ld_4, ld_5, ld_6, ld_7, ld_8, ← at00, ← cut0]
  rfl

/-- The second image's cluster output. -/
theorem y1_eq : k0_pay62 x0 x1 x2 x3 x4 x5 x6 x7 x8 x9 x10 x11 x12 x13 x14 x15 x16 = itemY (blkF x0 x1 x2 x5 x6) (unitV (blkF x0 x1 x2 x5 x6)) (blkV x0 x1 x2 x7 x8)
    (x9 (ix2 0 0)) (x10 (ix2 0 0)) 1 := by
  unfold k0_pay62 k0_pay59 k0_pay60 k0_pay61 itemY
  rw [v_eq, f_eq, u_eq]
  simp only [ld_0, ld_1, ld_2, ld_3, ld_4, ld_5, ld_6, ld_7, ld_8, ← at00, ← cut1]
  rfl

/-- The third image's cluster output. -/
theorem y2_eq : k0_pay63 x0 x1 x2 x3 x4 x5 x6 x7 x8 x9 x10 x11 x12 x13 x14 x15 x16 = itemY (blkF x0 x1 x2 x5 x6) (unitV (blkF x0 x1 x2 x5 x6)) (blkV x0 x1 x2 x7 x8)
    (x9 (ix2 0 0)) (x10 (ix2 0 0)) 2 := by
  unfold k0_pay63 itemY
  rw [v_eq, f_eq, u_eq]
  simp only [ld_0, ld_1, ld_2, ld_3, ld_4, ld_5, ld_6, ld_7, ld_8, ← at00, ← cut2]
  rfl

/-- The scores of the last image, as printed. -/
theorem s3_eq (f u : FVec Ideal S2304x192 .f32) (sa sb : Vec Ideal S1x1 .f32) :
    k0_pay43 (k0_pay40 u) (k0_pay42 aMat bDiag bMask f) sb sa
      = leakyM (scoreM (ctrN (ctr (cut 3 f))) (cut 3 u) (sa (ix2 0 0)) (sb (ix2 0 0))) := by
  simp only [← at00, ← cut3]
  rfl

/-- The weighted one-hot of the last image, as printed. -/
theorem w3_eq (u : FVec Ideal S576x192 .f32) (cn : FVec Ideal S128x192 .f32) (sa sb : Vec Ideal S1x1 .f32) :
    k0_pay45 mIota u cn sb sa = maskedM (k0_pay43 u cn sb sa) := by
  unfold k0_pay45 k0_pay44
  generalize k0_pay43 u cn sb sa = s
  rfl

/-- The counts of the last image, as printed. -/
theorem c3_eq (u : FVec Ideal S576x192 .f32) (cn : FVec Ideal S128x192 .f32) (sa sb : Vec Ideal S1x1 .f32) :
    k0_pay46 mIota u cn sb sa = cntM (k0_pay43 u cn sb sa) := by
  unfold k0_pay46 k0_pay44
  generalize k0_pay43 u cn sb sa = s
  rfl

/-- The last image's rows and the projection, as printed. -/
theorem p47_eq (x : FVec Ideal S2304x384 .f32) (y0 y1 y2 : FVec Ideal S576x192 .f32) (v : FVec Ideal S2304x192 .f32)
    (s : FVec Ideal S8x16x576 .f32) (w : Vec Ideal S384x192 .f32) (b : Vec Ideal S1x384 .f32) :
    k0_pay47 bMask x y0 y1 y2 (k0_pay39 v) (k0_pay41 aMat v) (maskedM s) (cntM s) (constant S128x192 .f32 0x00000000#32) w b
      = midV x (concatenate S2304x192 0 [⟨S576x192, y0⟩, ⟨S576x192, y1⟩, ⟨S576x192, y2⟩, ⟨S576x192, yM s (cut 3 v)⟩]
          concatenates_S576x192_S576x192_S576x192_S576x192_S2304x192_d0) w b := by
  unfold yM heldM
  generalize maskedM s = m
  generalize cntM s = c
  rw [← cut3]
  rfl

/-- The input plus the projected values, as printed. -/
theorem m_eq : k0_pay47 (k0_pay52 x0 x1 x2 x3 x4 x5 x6 x7 x8 x9 x10 x11 x12 x13 x14 x15 x16) (k0_pay53 x0 x1 x2 x3 x4 x5 x6 x7 x8 x9 x10 x11 x12 x13 x14 x15 x16) (k0_pay58 x0 x1 x2 x3 x4 x5 x6 x7 x8 x9 x10 x11 x12 x13 x14 x15 x16) (k0_pay62 x0 x1 x2 x3 x4 x5 x6 x7 x8 x9 x10 x11 x12 x13 x14 x15 x16) (k0_pay63 x0 x1 x2 x3 x4 x5 x6 x7 x8 x9 x10 x11 x12 x13 x14 x15 x16) (k0_pay64 x0 x1 x2 x3 x4 x5 x6 x7 x8 x9 x10 x11 x12 x13 x14 x15 x16) (k0_pay66 x0 x1 x2 x3 x4 x5 x6 x7 x8 x9 x10 x11 x12 x13 x14 x15 x16) (k0_pay69 x0 x1 x2 x3 x4 x5 x6 x7 x8 x9 x10 x11 x12 x13 x14 x15 x16) (k0_pay70 x0 x1 x2 x3 x4 x5 x6 x7 x8 x9 x10 x11 x12 x13 x14 x15 x16) (k0_pay68 x0 x1 x2 x3 x4 x5 x6 x7 x8 x9 x10 x11 x12 x13 x14 x15 x16) x11 x12
    = blkM x0 x1 x2 x5 x6 x7 x8 x9 x10 x11 x12 := by
  unfold blkM blkY allY
  rw [y0_eq, y1_eq, y2_eq]
  unfold k0_pay53 k0_pay64 k0_pay66 k0_pay69 k0_pay70 k0_pay65 k0_pay67 k0_pay68
  rw [v_eq, f_eq, u_eq]
  simp only [ld_0, ld_1, ld_2, ld_3, ld_4, ld_5, ld_6, ld_7, ld_8]
  generalize blkF x0 x1 x2 x5 x6 = f
  generalize blkV x0 x1 x2 x7 x8 = v
  generalize unitV f = u
  have hs : ∀ w, itemY f u w (x9 (ix2 0 0)) (x10 (ix2 0 0)) 3 = yM (k0_pay43 (k0_pay40 u) (k0_pay42 aMat bDiag bMask f) x10 x9) (cut 3 w) :=
    fun w => by rw [s3_eq]; rfl
  rw [hs]
  generalize itemY f u v (x9 (ix2 0 0)) (x10 (ix2 0 0)) 0 = y0
  generalize itemY f u v (x9 (ix2 0 0)) (x10 (ix2 0 0)) 1 = y1
  generalize itemY f u v (x9 (ix2 0 0)) (x10 (ix2 0 0)) 2 = y2
  rw [← p47_eq, ← w3_eq, ← c3_eq]
  rfl

/-- The second layer norm, as printed. -/
theorem ln2_eq (a : FVec Ideal S128x192 .f32) (b : FVec Ideal S2304x384 .f32) (c d e f : FVec Ideal S576x192 .f32)
    (g : FVec Ideal S16x192 .f32) (h : FVec Ideal S128x576 .f32) (i : FVec Ideal S128x1 .f32) (j : FVec Ideal S128x192 .f32)
    (k : Vec Ideal S384x192 .f32) (l m n : Vec Ideal S1x384 .f32) :
    k0_pay48 a b c d e f g h i j k l m n = lnV (k0_pay47 a b c d e f g h i j k l) m n := by
  unfold k0_pay48
  generalize k0_pay47 a b c d e f g h i j k l = z
  rfl

/-- The block's buffer after the body. -/
theorem out_eq : out0_17 x0 x1 x2 x3 x4 x5 x6 x7 x8 x9 x10 x11 x12 x13 x14 x15 x16 = blkO x0 x1 x2 x3 x4 x5 x6 x7 x8 x9 x10 x11 x12 x13 x14 x15 x16 := by
  unfold out0_17
  simp only [ld_0, ld_1, ld_2, ld_3, ld_4, ld_5, ld_6, ld_7, ld_8]
  rw [View.canon_unit_zero zero3]
  rw [ln2_eq, m_eq]
  rfl

end Cert.KernelIdeal.Block

end
-- ==== Proof.BlockValue.lean ====
/- The block's result at an index is the layer of the image the index names. -/
module

public import proofs.«01_k».proof.Proof.Scores
public import proofs.«01_k».proof.Proof.Printed

@[expose] public section

set_option maxRecDepth 16384

noncomputable section

namespace Cert.KernelIdeal.Block

open Idealize.ShloMosaic Cert.KernelIdeal Cert.KernelIdeal.Gen Cert.Cluster

variable (x0 : Vec Ideal S4x576x384 .f32) (x1 : Vec Ideal S1x384 .f32) (x2 : Vec Ideal S1x384 .f32) (x3 : Vec Ideal S1x384 .f32) (x4 : Vec Ideal S1x384 .f32) (x5 : Vec Ideal S192x384 .f32) (x6 : Vec Ideal S1x192 .f32) (x7 : Vec Ideal S192x384 .f32) (x8 : Vec Ideal S1x192 .f32) (x9 : Vec Ideal S1x1 .f32) (x10 : Vec Ideal S1x1 .f32) (x11 : Vec Ideal S384x192 .f32) (x12 : Vec Ideal S1x384 .f32) (x13 : Vec Ideal S1536x384 .f32) (x14 : Vec Ideal S1x1536 .f32) (x15 : Vec Ideal S384x1536 .f32) (x16 : Vec Ideal S1x384 .f32)

/-- The layer's parameters in the block's operands. -/
def par : Par where
  g1 := vecOf x1
  e1 := vecOf x2
  g2 := vecOf x3
  e2 := vecOf x4
  wf := matOf x5
  bf := vecOf x6
  wv := matOf x7
  bv := vecOf x8
  sa := x9 (ix2 0 0)
  sb := x10 (ix2 0 0)
  wp := matOf x11
  bp := vecOf x12
  w1 := matOf x13
  b1 := vecOf x14
  w2 := matOf x15
  b2 := vecOf x16

/-- Image `i` of the block. -/
def img (i : Fin 4) (n : Fin 576) (k : Fin 384) : EReal := x0 (ix3 i n k)

/-- The block's rows at image `i` are the image's tokens. -/
theorem rowOf_rowsV (i : Fin 4) (n : Fin 576) : rowOf (rowsV x0) (br i n) = img x0 i n :=
  funext fun k => rowsV_apply x0 i n k

/-- The block's features. -/
theorem blkF_apply (i : Fin 4) (n : Fin 576) (c : Fin 192) :
    blkF x0 x1 x2 x5 x6 (ix2 (br i n) c) = feat (par x1 x2 x3 x4 x5 x6 x7 x8 x9 x10 x11 x12 x13 x14 x15 x16) (img x0 i) n c := by
  unfold blkF
  rw [projV_apply]
  simp only [lnV_apply, rowOf_rowsV]
  rfl

/-- The block's values. -/
theorem blkV_apply (i : Fin 4) (n : Fin 576) (c : Fin 192) :
    blkV x0 x1 x2 x7 x8 (ix2 (br i n) c) = vals (par x1 x2 x3 x4 x5 x6 x7 x8 x9 x10 x11 x12 x13 x14 x15 x16) (img x0 i) n c := by
  unfold blkV
  rw [projV_apply]
  simp only [lnV_apply, rowOf_rowsV]
  rfl

/-- The tokens after the attention. -/
theorem blkM_apply (i : Fin 4) (h : Good (par x1 x2 x3 x4 x5 x6 x7 x8 x9 x10 x11 x12 x13 x14 x15 x16) (img x0 i)) (n : Fin 576) (k : Fin 384) :
    blkM x0 x1 x2 x5 x6 x7 x8 x9 x10 x11 x12 (ix2 (br i n) k) = mid (par x1 x2 x3 x4 x5 x6 x7 x8 x9 x10 x11 x12 x13 x14 x15 x16) (img x0 i) n k := by
  unfold blkM blkY
  rw [midV_apply]
  have e := fun c => itemY_apply (par x1 x2 x3 x4 x5 x6 x7 x8 x9 x10 x11 x12 x13 x14 x15 x16) h (blkF x0 x1 x2 x5 x6) (blkV x0 x1 x2 x7 x8) i
    (blkF_apply x0 x1 x2 x3 x4 x5 x6 x7 x8 x9 x10 x11 x12 x13 x14 x15 x16 i) (blkV_apply x0 x1 x2 x3 x4 x5 x6 x7 x8 x9 x10 x11 x12 x13 x14 x15 x16 i) n c
  simp only [allY_apply, rowsV_apply]
  simp only [show (par x1 x2 x3 x4 x5 x6 x7 x8 x9 x10 x11 x12 x13 x14 x15 x16).sa = x9 (ix2 0 0) from rfl, show (par x1 x2 x3 x4 x5 x6 x7 x8 x9 x10 x11 x12 x13 x14 x15 x16).sb = x10 (ix2 0 0) from rfl] at e
  simp only [e]
  rfl

/-- The block's result. -/
theorem out_apply (i : Fin 4) (h : Good (par x1 x2 x3 x4 x5 x6 x7 x8 x9 x10 x11 x12 x13 x14 x15 x16) (img x0 i)) (n : Fin 576) (k : Fin 384) :
    out0_17 x0 x1 x2 x3 x4 x5 x6 x7 x8 x9 x10 x11 x12 x13 x14 x15 x16 (ix3 i n k) = out (par x1 x2 x3 x4 x5 x6 x7 x8 x9 x10 x11 x12 x13 x14 x15 x16) (img x0 i) n k := by
  rw [out_eq]
  unfold blkO
  rw [mlpV_apply]
  simp only [lnV_apply]
  have e : rowOf (blkM x0 x1 x2 x5 x6 x7 x8 x9 x10 x11 x12) (br i n) = mid (par x1 x2 x3 x4 x5 x6 x7 x8 x9 x10 x11 x12 x13 x14 x15 x16) (img x0 i) n :=
    funext fun k => blkM_apply x0 x1 x2 x3 x4 x5 x6 x7 x8 x9 x10 x11 x12 x13 x14 x15 x16 i h n k
  rw [e, blkM_apply x0 x1 x2 x3 x4 x5 x6 x7 x8 x9 x10 x11 x12 x13 x14 x15 x16 i h]
  rfl

end Cert.KernelIdeal.Block

end
-- ==== Proof.Array.lean ====
/- What the kernel's result array holds after its run: the layer of the argument arrays. -/
module

public import Idealize.ShloMosaic.Lib.Claim
public import Idealize.ShloMosaic.Lib.Pipeline.ValueKit
public import proofs.«01_k».proof.Proof.Gen.KernelIdeal.Value
public import proofs.«01_k».proof.Proof.Args
public import proofs.«01_k».proof.Proof.BlockValue

@[expose] public section

set_option maxRecDepth 16384

noncomputable section

namespace Cert.KernelIdeal.Array

open Cert.KernelIdeal Cert.KernelIdeal.Gen Idealize.ShloMosaic Idealize.ShloMosaic.TcCoe Idealize.SL.Sem
open Idealize.ShloMosaic.Pipeline (Dat)
open Cert.Cluster Cert.KernelIdeal.Block

variable (m : (ℓ : Loc nD τ sig) → Buf (Elt Ideal) ℓ) (ρ : Dev nD → PrngReg)

/-! ## Where each window's block lies: the images' windows move with the point, the others stay -/

/-- The images' window lies at the point's block of four. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
/-- So does the result's. -/
theorem idx17 : ∀ t : Fin cfg0.N, win0_17.index t (0 : Fin 3) = t.val ∧ win0_17.index t (1 : Fin 3) = 0 ∧ win0_17.index t (2 : Fin 3) = 0 :=
  (by decide +kernel : ∀ t : Fin grid0.N, _)
/-- The window of `gamma1` stays at the origin. -/
theorem idx1 : ∀ t : Fin cfg0.N, win0_1.index t (0 : Fin 2) = 0 ∧ win0_1.index t (1 : Fin 2) = 0 :=
  (by decide +kernel : ∀ t : Fin grid0.N, _)
/-- The window of `beta1` stays at the origin. -/
theorem idx2 : ∀ t : Fin cfg0.N, win0_2.index t (0 : Fin 2) = 0 ∧ win0_2.index t (1 : Fin 2) = 0 :=
  (by decide +kernel : ∀ t : Fin grid0.N, _)
/-- The window of `gamma2` stays at the origin. -/
theorem idx3 : ∀ t : Fin cfg0.N, win0_3.index t (0 : Fin 2) = 0 ∧ win0_3.index t (1 : Fin 2) = 0 :=
  (by decide +kernel : ∀ t : Fin grid0.N, _)
/-- The window of `beta2` stays at the origin. -/
theorem idx4 : ∀ t : Fin cfg0.N, win0_4.index t (0 : Fin 2) = 0 ∧ win0_4.index t (1 : Fin 2) = 0 :=
  (by decide +kernel : ∀ t : Fin grid0.N, _)
/-- The window of `Wf` stays at the origin. -/
theorem idx5 : ∀ t : Fin cfg0.N, win0_5.index t (0 : Fin 2) = 0 ∧ win0_5.index t (1 : Fin 2) = 0 :=
  (by decide +kernel : ∀ t : Fin grid0.N, _)
/-- The window of `bf` stays at the origin. -/
theorem idx6 : ∀ t : Fin cfg0.N, win0_6.index t (0 : Fin 2) = 0 ∧ win0_6.index t (1 : Fin 2) = 0 :=
  (by decide +kernel : ∀ t : Fin grid0.N, _)
/-- The window of `Wv` stays at the origin. -/
theorem idx7 : ∀ t : Fin cfg0.N, win0_7.index t (0 : Fin 2) = 0 ∧ win0_7.index t (1 : Fin 2) = 0 :=
  (by decide +kernel : ∀ t : Fin grid0.N, _)
/-- The window of `bv` stays at the origin. -/
theorem idx8 : ∀ t : Fin cfg0.N, win0_8.index t (0 : Fin 2) = 0 ∧ win0_8.index t (1 : Fin 2) = 0 :=
  (by decide +kernel : ∀ t : Fin grid0.N, _)
/-- The window of `sim_alpha` stays at the origin. -/
theorem idx9 : ∀ t : Fin cfg0.N, win0_9.index t (0 : Fin 2) = 0 ∧ win0_9.index t (1 : Fin 2) = 0 :=
  (by decide +kernel : ∀ t : Fin grid0.N, _)
/-- The window of `sim_beta` stays at the origin. -/
theorem idx10 : ∀ t : Fin cfg0.N, win0_10.index t (0 : Fin 2) = 0 ∧ win0_10.index t (1 : Fin 2) = 0 :=
  (by decide +kernel : ∀ t : Fin grid0.N, _)
/-- The window of `Wproj` stays at the origin. -/
theorem idx11 : ∀ t : Fin cfg0.N, win0_11.index t (0 : Fin 2) = 0 ∧ win0_11.index t (1 : Fin 2) = 0 :=
  (by decide +kernel : ∀ t : Fin grid0.N, _)
/-- The window of `bproj` stays at the origin. -/
theorem idx12 : ∀ t : Fin cfg0.N, win0_12.index t (0 : Fin 2) = 0 ∧ win0_12.index t (1 : Fin 2) = 0 :=
  (by decide +kernel : ∀ t : Fin grid0.N, _)
/-- The window of `W1` stays at the origin. -/
theorem idx13 : ∀ t : Fin cfg0.N, win0_13.index t (0 : Fin 2) = 0 ∧ win0_13.index t (1 : Fin 2) = 0 :=
  (by decide +kernel : ∀ t : Fin grid0.N, _)
/-- The window of `b1` stays at the origin. -/
theorem idx14 : ∀ t : Fin cfg0.N, win0_14.index t (0 : Fin 2) = 0 ∧ win0_14.index t (1 : Fin 2) = 0 :=
  (by decide +kernel : ∀ t : Fin grid0.N, _)
/-- The window of `W2` stays at the origin. -/
theorem idx15 : ∀ t : Fin cfg0.N, win0_15.index t (0 : Fin 2) = 0 ∧ win0_15.index t (1 : Fin 2) = 0 :=
  (by decide +kernel : ∀ t : Fin grid0.N, _)
/-- The window of `b2` stays at the origin. -/
theorem idx16 : ∀ t : Fin cfg0.N, win0_16.index t (0 : Fin 2) = 0 ∧ win0_16.index t (1 : Fin 2) = 0 :=
  (by decide +kernel : ∀ t : Fin grid0.N, _)

/-! ## What each window's block holds: four images, or the whole parameter -/

/-- The image of the batch that is image `i` of point `t`. -/
def bat (t : Fin cfg0.N) (i : Fin 4) : Fin 16 := ⟨4 * t.val + i.val, by
  have : t.val < 4 := lt_of_lt_of_eq t.isLt N_0
  omega⟩

/-- The images' window holds the point's four images. -/
theorem read0 (c : Dev nD) (t : Fin cfg0.N) (i : Fin 4) (n : Fin 576) (k : Fin 384) :
    iblk m c 0 t (ix3 i n k) = m ((c : Thread nD τ).loc main_arg0) (ix3 (bat t i) n k) := by
  have e := idx0 t
  blk_ext [iblk, V, e.1, e.2.1, e.2.2, bat]
/-- The window of `gamma1` holds that argument. -/
theorem read1 (c : Dev nD) (t : Fin cfg0.N) (k : Fin 384) :
    iblk m c 1 t (ix2 0 k) = m ((c : Thread nD τ).loc main_arg1) (ix1 k) := by
  have e := idx1 t
  show V m c main_call0_v0 (((cfg0.win 1).blk t).view.emb (ix2 0 k)) = _
  have hj : ((cfg0.win 1).blk t).view.emb (ix2 0 k) = ix2 0 k := by blk_ext [e.1, e.2]
  rw [hj]
  entry_read
  pointwise
/-- The window of `beta1` holds that argument. -/
theorem read2 (c : Dev nD) (t : Fin cfg0.N) (k : Fin 384) :
    iblk m c 2 t (ix2 0 k) = m ((c : Thread nD τ).loc main_arg2) (ix1 k) := by
  have e := idx2 t
  show V m c main_call0_v1 (((cfg0.win 2).blk t).view.emb (ix2 0 k)) = _
  have hj : ((cfg0.win 2).blk t).view.emb (ix2 0 k) = ix2 0 k := by blk_ext [e.1, e.2]
  rw [hj]
  entry_read
  pointwise
/-- The window of `gamma2` holds that argument. -/
theorem read3 (c : Dev nD) (t : Fin cfg0.N) (k : Fin 384) :
    iblk m c 3 t (ix2 0 k) = m ((c : Thread nD τ).loc main_arg3) (ix1 k) := by
  have e := idx3 t
  show V m c main_call0_v2 (((cfg0.win 3).blk t).view.emb (ix2 0 k)) = _
  have hj : ((cfg0.win 3).blk t).view.emb (ix2 0 k) = ix2 0 k := by blk_ext [e.1, e.2]
  rw [hj]
  entry_read
  pointwise
/-- The window of `beta2` holds that argument. -/
theorem read4 (c : Dev nD) (t : Fin cfg0.N) (k : Fin 384) :
    iblk m c 4 t (ix2 0 k) = m ((c : Thread nD τ).loc main_arg4) (ix1 k) := by
  have e := idx4 t
  show V m c main_call0_v3 (((cfg0.win 4).blk t).view.emb (ix2 0 k)) = _
  have hj : ((cfg0.win 4).blk t).view.emb (ix2 0 k) = ix2 0 k := by blk_ext [e.1, e.2]
  rw [hj]
  entry_read
  pointwise
/-- The window of `Wf` holds that argument. -/
theorem read5 (c : Dev nD) (t : Fin cfg0.N) (j : Fin 192) (k : Fin 384) :
    iblk m c 5 t (ix2 j k) = m ((c : Thread nD τ).loc main_arg5) (ix2 j k) := by
  have e := idx5 t
  blk_ext [iblk, V, e.1, e.2]
/-- The window of `bf` holds that argument. -/
theorem read6 (c : Dev nD) (t : Fin cfg0.N) (k : Fin 192) :
    iblk m c 6 t (ix2 0 k) = m ((c : Thread nD τ).loc main_arg6) (ix1 k) := by
  have e := idx6 t
  show V m c main_call0_v4 (((cfg0.win 6).blk t).view.emb (ix2 0 k)) = _
  have hj : ((cfg0.win 6).blk t).view.emb (ix2 0 k) = ix2 0 k := by blk_ext [e.1, e.2]
  rw [hj]
  entry_read
  pointwise
/-- The window of `Wv` holds that argument. -/
theorem read7 (c : Dev nD) (t : Fin cfg0.N) (j : Fin 192) (k : Fin 384) :
    iblk m c 7 t (ix2 j k) = m ((c : Thread nD τ).loc main_arg7) (ix2 j k) := by
  have e := idx7 t
  blk_ext [iblk, V, e.1, e.2]
/-- The window of `bv` holds that argument. -/
theorem read8 (c : Dev nD) (t : Fin cfg0.N) (k : Fin 192) :
    iblk m c 8 t (ix2 0 k) = m ((c : Thread nD τ).loc main_arg8) (ix1 k) := by
  have e := idx8 t
  show V m c main_call0_v5 (((cfg0.win 8).blk t).view.emb (ix2 0 k)) = _
  have hj : ((cfg0.win 8).blk t).view.emb (ix2 0 k) = ix2 0 k := by blk_ext [e.1, e.2]
  rw [hj]
  entry_read
  pointwise
/-- The window of `sim_alpha` holds that argument. -/
theorem read9 (c : Dev nD) (t : Fin cfg0.N) (k : Fin 1) :
    iblk m c 9 t (ix2 0 k) = m ((c : Thread nD τ).loc main_arg9) (ix1 k) := by
  have e := idx9 t
  show V m c main_call0_v6 (((cfg0.win 9).blk t).view.emb (ix2 0 k)) = _
  have hj : ((cfg0.win 9).blk t).view.emb (ix2 0 k) = ix2 0 k := by blk_ext [e.1, e.2]
  rw [hj]
  entry_read
  pointwise
  rw [Fin.fin_one_eq_zero k]
/-- The window of `sim_beta` holds that argument. -/
theorem read10 (c : Dev nD) (t : Fin cfg0.N) (k : Fin 1) :
    iblk m c 10 t (ix2 0 k) = m ((c : Thread nD τ).loc main_arg10) (ix1 k) := by
  have e := idx10 t
  show V m c main_call0_v7 (((cfg0.win 10).blk t).view.emb (ix2 0 k)) = _
  have hj : ((cfg0.win 10).blk t).view.emb (ix2 0 k) = ix2 0 k := by blk_ext [e.1, e.2]
  rw [hj]
  entry_read
  pointwise
  rw [Fin.fin_one_eq_zero k]
/-- The window of `Wproj` holds that argument. -/
theorem read11 (c : Dev nD) (t : Fin cfg0.N) (j : Fin 384) (k : Fin 192) :
    iblk m c 11 t (ix2 j k) = m ((c : Thread nD τ).loc main_arg11) (ix2 j k) := by
  have e := idx11 t
  blk_ext [iblk, V, e.1, e.2]
/-- The window of `bproj` holds that argument. -/
theorem read12 (c : Dev nD) (t : Fin cfg0.N) (k : Fin 384) :
    iblk m c 12 t (ix2 0 k) = m ((c : Thread nD τ).loc main_arg12) (ix1 k) := by
  have e := idx12 t
  show V m c main_call0_v8 (((cfg0.win 12).blk t).view.emb (ix2 0 k)) = _
  have hj : ((cfg0.win 12).blk t).view.emb (ix2 0 k) = ix2 0 k := by blk_ext [e.1, e.2]
  rw [hj]
  entry_read
  pointwise
/-- The window of `W1` holds that argument. -/
theorem read13 (c : Dev nD) (t : Fin cfg0.N) (j : Fin 1536) (k : Fin 384) :
    iblk m c 13 t (ix2 j k) = m ((c : Thread nD τ).loc main_arg13) (ix2 j k) := by
  have e := idx13 t
  blk_ext [iblk, V, e.1, e.2]
/-- The window of `b1` holds that argument. -/
theorem read14 (c : Dev nD) (t : Fin cfg0.N) (k : Fin 1536) :
    iblk m c 14 t (ix2 0 k) = m ((c : Thread nD τ).loc main_arg14) (ix1 k) := by
  have e := idx14 t
  show V m c main_call0_v9 (((cfg0.win 14).blk t).view.emb (ix2 0 k)) = _
  have hj : ((cfg0.win 14).blk t).view.emb (ix2 0 k) = ix2 0 k := by blk_ext [e.1, e.2]
  rw [hj]
  entry_read
  pointwise
/-- The window of `W2` holds that argument. -/
theorem read15 (c : Dev nD) (t : Fin cfg0.N) (j : Fin 384) (k : Fin 1536) :
    iblk m c 15 t (ix2 j k) = m ((c : Thread nD τ).loc main_arg15) (ix2 j k) := by
  have e := idx15 t
  blk_ext [iblk, V, e.1, e.2]
/-- The window of `b2` holds that argument. -/
theorem read16 (c : Dev nD) (t : Fin cfg0.N) (k : Fin 384) :
    iblk m c 16 t (ix2 0 k) = m ((c : Thread nD τ).loc main_arg16) (ix1 k) := by
  have e := idx16 t
  show V m c main_call0_v10 (((cfg0.win 16).blk t).view.emb (ix2 0 k)) = _
  have hj : ((cfg0.win 16).blk t).view.emb (ix2 0 k) = ix2 0 k := by blk_ext [e.1, e.2]
  rw [hj]
  entry_read
  pointwise

/-- The parameters in the blocks are the parameters in the arrays. -/
theorem par_eq (c : Dev nD) (t : Fin cfg0.N) :
    par (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
      = parOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  unfold par parOf
  congr 1
  · funext k; exact read1 m c t k
  · funext k; exact read2 m c t k
  · funext k; exact read3 m c t k
  · funext k; exact read4 m c t k
  · funext j k; exact read5 m c t j k
  · funext k; exact read6 m c t k
  · funext j k; exact read7 m c t j k
  · funext k; exact read8 m c t k
  · exact read9 m c t 0
  · exact read10 m c t 0
  · funext j k; exact read11 m c t j k
  · funext k; exact read12 m c t k
  · funext j k; exact read13 m c t j k
  · funext k; exact read14 m c t k
  · funext j k; exact read15 m c t j k
  · funext k; exact read16 m c t k

/-- The images in the blocks are the images of the batch. -/
theorem img_eq (c : Dev nD) (t : Fin cfg0.N) (i : Fin 4) :
    img (iblk m c 0 t) i = imgOf (m ((c : Thread nD τ).loc main_arg0)) (bat t i) := by
  funext n k
  exact read0 m c t i n k

/-! ## The array -/

/-- No image of the batch has a degenerate feature or centre. -/
def AllGood (c : Dev nD) : Prop := ∀ b : Fin 16,
  Good (parOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (imgOf (m ((c : Thread nD τ).loc main_arg0)) b)

/-- The layer of the arrays. -/
def result (c : Dev nD) : FVec Ideal S16x576x384 .f32 :=
  layerOf (parOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg0))

/-- The array after the run holds it. -/
theorem final (c : Dev nD) (h : AllGood m c) : (dats m 0 c).arrAt 17 cfg0.N = result m c := by
  refine (dats m 0 c).arrAt_eq_of_covers 17 _ (by decide +kernel) fun t hf y => ?_
  rw [eq_ix3 y]
  generalize y 0 = i, y 1 = n, y 2 = k
  blk_simp
  rw [after0_17]
  have hb : ∀ (t : Fin cfg0.N) (i : Fin 4) (n : Fin 576) (k : Fin 384), (win0_17.blk t).view.emb (ix3 i n k) = ix3 (bat t i) n k := by
    intro t i n k
    have e := idx17 t
    blk_ext [e.1, e.2.1, e.2.2, bat]
  refine Eq.trans ?_ (congrArg (result m c) (hb t i n k)).symm
  have hg := h (bat t i)
  rw [← par_eq m c t, ← img_eq m c t i] at hg
  refine (out_apply _ _ _ _ _ _ _ _ _ _ _ _ _ _ _ _ _ i hg n k).trans ?_
  rw [par_eq m c t, img_eq m c t i]
  exact (layerOf_apply _ _ _ _ _).symm

/-- The run: the result array ends at the layer of the argument arrays, which are unchanged. -/
theorem run (h : ∀ c, AllGood m c) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun _ hr c => ⟨(hr c).1.trans (final m c (h c)), (hr c).2⟩) (Cert.KernelIdeal.Value.run_blocks m ρ)

end Cert.KernelIdeal.Array

end
-- ==== Proof.RefRun.lean ====
/- The reference's run. `ops` lists the 194 host operations of the reference's @main in program order, `res_‹buffer› V0` names
   the value a buffer used more than once holds, as a function of the contents `V0` of the arguments, and `run` says that every
   execution terminates with the result buffer at `res_main_v146`'s term and the arguments unchanged. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 60 of 194 (window `main_part0`). -/
abbrev ops_part0 : List (HloOp τ sig (Elt F)) :=
  [ nullary main_cst (constant S_ .f32 0x00000000#32),
    binary main_arg0 main_cst main_v0 ((fun x v => Host.reduceAdd x v reducesTo_S16x576x384_S16x576_d2 h_S_) : (⟨S16x576x384, .f32⟩ : BufTy).Contents (Elt F) → (⟨S_, .f32⟩ : BufTy).Contents (Elt F) → (⟨S16x576, .f32⟩ : BufTy).Contents (Elt F)),
    unary main_v0 main_v1 (broadcastInDim S16x576x1 ![0, 1] bcast_S16x576_S16x576x1_0_1 : (⟨S16x576, .f32⟩ : BufTy).Contents (Elt F) → (⟨S16x576x1, .f32⟩ : BufTy).Contents (Elt F)),
    nullary main_cst_0 (constant S_ .f32 0x43C00000#32),
    unary main_cst_0 main_v2 (broadcastInDim S16x576x1 ![] bcast_S_S16x576x1 : (⟨S_, .f32⟩ : BufTy).Contents (Elt F) → (⟨S16x576x1, .f32⟩ : BufTy).Contents (Elt F)),
    binary main_v1 main_v2 main_v3 (Host.divf : (⟨S16x576x1, .f32⟩ : BufTy).Contents (Elt F) → (⟨S16x576x1, .f32⟩ : BufTy).Contents (Elt F) → (⟨S16x576x1, .f32⟩ : BufTy).Contents (Elt F)),
    unary main_v3 main_v4 (broadcastInDim S16x576x384 ![0, 1, 2] bcast_S16x576x1_S16x576x384_0_1_2 : (⟨S16x576x1, .f32⟩ : BufTy).Contents (Elt F) → (⟨S16x576x384, .f32⟩ : BufTy).Contents (Elt F)),
    binary main_arg0 main_v4 main_v5 (subf : (⟨S16x576x384, .f32⟩ : BufTy).Contents (Elt F) → (⟨S16x576x384, .f32⟩ : BufTy).Contents (Elt F) → (⟨S16x576x384, .f32⟩ : BufTy).Contents (Elt F)),
    binary main_v5 main_v5 main_v6 (mulf : (⟨S16x576x384, .f32⟩ : BufTy).Contents (Elt F) → (⟨S16x576x384, .f32⟩ : BufTy).Contents (Elt F) → (⟨S16x576x384, .f32⟩ : BufTy).Contents (Elt F)),
    nullary main_cst_1 (constant S_ .f32 0x00000000#32),
    binary main_v6 main_cst_1 main_v7 ((fun x v => Host.reduceAdd x v reducesTo_S16x576x384_S16x576_d2 h_S_) : (⟨S16x576x384, .f32⟩ : BufTy).Contents (Elt F) → (⟨S_, .f32⟩ : BufTy).Contents (Elt F) → (⟨S16x576, .f32⟩ : BufTy).Contents (Elt F)),
    unary main_v7 main_v8 (broadcastInDim S16x576x1 ![0, 1] bcast_S16x576_S16x576x1_0_1 : (⟨S16x576, .f32⟩ : BufTy).Contents (Elt F) → (⟨S16x576x1, .f32⟩ : BufTy).Contents (Elt F)),
    nullary main_cst_2 (constant S_ .f32 0x43C00000#32),
    unary main_cst_2 main_v9 (broadcastInDim S16x576x1 ![] bcast_S_S16x576x1 : (⟨S_, .f32⟩ : BufTy).Contents (Elt F) → (⟨S16x576x1, .f32⟩ : BufTy).Contents (Elt F)),
    binary main_v8 main_v9 main_v10 (Host.divf : (⟨S16x576x1, .f32⟩ : BufTy).Contents (Elt F) → (⟨S16x576x1, .f32⟩ : BufTy).Contents (Elt F) → (⟨S16x576x1, .f32⟩ : BufTy).Contents (Elt F)),
    unary main_v3 main_v11 (broadcastInDim S16x576x384 ![0, 1, 2] bcast_S16x576x1_S16x576x384_0_1_2 : (⟨S16x576x1, .f32⟩ : BufTy).Contents (Elt F) → (⟨S16x576x384, .f32⟩ : BufTy).Contents (Elt F)),
    binary main_arg0 main_v11 main_v12 (subf : (⟨S16x576x384, .f32⟩ : BufTy).Contents (Elt F) → (⟨S16x576x384, .f32⟩ : BufTy).Contents (Elt F) → (⟨S16x576x384, .f32⟩ : BufTy).Contents (Elt F)),
    nullary main_cst_3 (constant S_ .f32 0x3727C5AC#32),
    unary main_cst_3 main_v13 (broadcastInDim S16x576x1 ![] bcast_S_S16x576x1 : (⟨S_, .f32⟩ : BufTy).Contents (Elt F) → (⟨S16x576x1, .f32⟩ : BufTy).Contents (Elt F)),
    binary main_v10 main_v13 main_v14 (addf : (⟨S16x576x1, .f32⟩ : BufTy).Contents (Elt F) → (⟨S16x576x1, .f32⟩ : BufTy).Contents (Elt F) → (⟨S16x576x1, .f32⟩ : BufTy).Contents (Elt F)),
    unary main_v14 main_v15 (Host.sqrt : (⟨S16x576x1, .f32⟩ : BufTy).Contents (Elt F) → (⟨S16x576x1, .f32⟩ : BufTy).Contents (Elt F)),
    unary main_v15 main_v16 (broadcastInDim S16x576x384 ![0, 1, 2] bcast_S16x576x1_S16x576x384_0_1_2 : (⟨S16x576x1, .f32⟩ : BufTy).Contents (Elt F) → (⟨S16x576x384, .f32⟩ : BufTy).Contents (Elt F)),
    binary main_v12 main_v16 main_v17 (Host.divf : (⟨S16x576x384, .f32⟩ : BufTy).Contents (Elt F) → (⟨S16x576x384, .f32⟩ : BufTy).Contents (Elt F) → (⟨S16x576x384, .f32⟩ : BufTy).Contents (Elt F)),
    unary main_arg1 main_v18 (broadcastInDim S1x1x384 ![2] bcast_S384_S1x1x384_2 : (⟨S384, .f32⟩ : BufTy).Contents (Elt F) → (⟨S1x1x384, .f32⟩ : BufTy).Contents (Elt F)),
    unary main_v18 main_v19 (broadcastInDim S16x576x384 ![0, 1, 2] bcast_S1x1x384_S16x576x384_0_1_2 : (⟨S1x1x384, .f32⟩ : BufTy).Contents (Elt F) → (⟨S16x576x384, .f32⟩ : BufTy).Contents (Elt F)),
    binary main_v17 main_v19 main_v20 (mulf : (⟨S16x576x384, .f32⟩ : BufTy).Contents (Elt F) → (⟨S16x576x384, .f32⟩ : BufTy).Contents (Elt F) → (⟨S16x576x384, .f32⟩ : BufTy).Contents (Elt F)),
    unary main_arg2 main_v21 (broadcastInDim S1x1x384 ![2] bcast_S384_S1x1x384_2 : (⟨S384, .f32⟩ : BufTy).Contents (Elt F) → (⟨S1x1x384, .f32⟩ : BufTy).Contents (Elt F)),
    unary main_v21 main_v22 (broadcastInDim S16x576x384 ![0, 1, 2] bcast_S1x1x384_S16x576x384_0_1_2 : (⟨S1x1x384, .f32⟩ : BufTy).Contents (Elt F) → (⟨S16x576x384, .f32⟩ : BufTy).Contents (Elt F)),
    binary main_v20 main_v22 main_v23 (addf : (⟨S16x576x384, .f32⟩ : BufTy).Contents (Elt F) → (⟨S16x576x384, .f32⟩ : BufTy).Contents (Elt F) → (⟨S16x576x384, .f32⟩ : BufTy).Contents (Elt F)),
    reshape main_v23 main_v24 (rfl : (.f32 : EltTy) = .f32) shapeCasts_S16x576x384_S16x24x24x384,
    unary main_v24 main_v25 ((transpose S16x384x24x24 [0, 3, 1, 2] · transposes_S16x24x24x384_S16x384x24x24_0_3_1_2) : (⟨S16x24x24x384, .f32⟩ : BufTy).Contents (Elt F) → (⟨S16x384x24x24, .f32⟩ : BufTy).Contents (Elt F)),
    binary main_arg7 main_v25 main_v26 ((fun l r => Host.dotGeneral dot_S192x384_S16x384x24x24_S192x16x24x24_1_1_0_023_n_n none l r) : (⟨S192x384, .f32⟩ : BufTy).Contents (Elt F) → (⟨S16x384x24x24, .f32⟩ : BufTy).Contents (Elt F) → (⟨S192x16x24x24, .f32⟩ : BufTy).Contents (Elt F)),
    unary main_v26 main_v27 ((transpose S16x192x24x24 [1, 0, 2, 3] · transposes_S192x16x24x24_S16x192x24x24_1_0_2_3) : (⟨S192x16x24x24, .f32⟩ : BufTy).Contents (Elt F) → (⟨S16x192x24x24, .f32⟩ : BufTy).Contents (Elt F)),
    unary main_arg8 main_v28 (broadcastInDim S1x192x1x1 ![1] bcast_S192_S1x192x1x1_1 : (⟨S192, .f32⟩ : BufTy).Contents (Elt F) → (⟨S1x192x1x1, .f32⟩ : BufTy).Contents (Elt F)),
    unary main_v28 main_v29 (broadcastInDim S16x192x24x24 ![0, 1, 2, 3] bcast_S1x192x1x1_S16x192x24x24_0_1_2_3 : (⟨S1x192x1x1, .f32⟩ : BufTy).Contents (Elt F) → (⟨S16x192x24x24, .f32⟩ : BufTy).Contents (Elt F)),
    binary main_v27 main_v29 main_v30 (addf : (⟨S16x192x24x24, .f32⟩ : BufTy).Contents (Elt F) → (⟨S16x192x24x24, .f32⟩ : BufTy).Contents (Elt F) → (⟨S16x192x24x24, .f32⟩ : BufTy).Contents (Elt F)),
    binary main_arg5 main_v25 main_v31 ((fun l r => Host.dotGeneral dot_S192x384_S16x384x24x24_S192x16x24x24_1_1_0_023_n_n none l r) : (⟨S192x384, .f32⟩ : BufTy).Contents (Elt F) → (⟨S16x384x24x24, .f32⟩ : BufTy).Contents (Elt F) → (⟨S192x16x24x24, .f32⟩ : BufTy).Contents (Elt F)),
    unary main_v31 main_v32 ((transpose S16x192x24x24 [1, 0, 2, 3] · transposes_S192x16x24x24_S16x192x24x24_1_0_2_3) : (⟨S192x16x24x24, .f32⟩ : BufTy).Contents (Elt F) → (⟨S16x192x24x24, .f32⟩ : BufTy).Contents (Elt F)),
    unary main_arg6 main_v33 (broadcastInDim S1x192x1x1 ![1] bcast_S192_S1x192x1x1_1 : (⟨S192, .f32⟩ : BufTy).Contents (Elt F) → (⟨S1x192x1x1, .f32⟩ : BufTy).Contents (Elt F)),
    unary main_v33 main_v34 (broadcastInDim S16x192x24x24 ![0, 1, 2, 3] bcast_S1x192x1x1_S16x192x24x24_0_1_2_3 : (⟨S1x192x1x1, .f32⟩ : BufTy).Contents (Elt F) → (⟨S16x192x24x24, .f32⟩ : BufTy).Contents (Elt F)),
    binary main_v32 main_v34 main_v35 (addf : (⟨S16x192x24x24, .f32⟩ : BufTy).Contents (Elt F) → (⟨S16x192x24x24, .f32⟩ : BufTy).Contents (Elt F) → (⟨S16x192x24x24, .f32⟩ : BufTy).Contents (Elt F)),
    reshape main_v35 main_v36 (rfl : (.f32 : EltTy) = .f32) shapeCasts_S16x192x24x24_S16x8x24x24x24,
    reshape main_v36 main_v37 (rfl : (.f32 : EltTy) = .f32) shapeCasts_S16x8x24x24x24_S128x24x24x24,
    reshape main_v30 main_v38 (rfl : (.f32 : EltTy) = .f32) shapeCasts_S16x192x24x24_S16x8x24x24x24,
    reshape main_v38 main_v39 (rfl : (.f32 : EltTy) = .f32) shapeCasts_S16x8x24x24x24_S128x24x24x24,
    reshape main_v37 main_v40 (rfl : (.f32 : EltTy) = .f32) shapeCasts_S128x24x24x24_S128x24x4x6x4x6,
    nullary main_cst_4 (constant S_ .f32 0x00000000#32),
    binary main_v40 main_cst_4 main_v41 ((fun x v => Host.reduceAdd x v reducesTo_S128x24x4x6x4x6_S128x24x4x4_d3_5 h_S_) : (⟨S128x24x4x6x4x6, .f32⟩ : BufTy).Contents (Elt F) → (⟨S_, .f32⟩ : BufTy).Contents (Elt F) → (⟨S128x24x4x4, .f32⟩ : BufTy).Contents (Elt F)),
    nullary main_cst_5 (constant S_ .f32 0x42100000#32),
    unary main_cst_5 main_v42 (broadcastInDim S128x24x4x4 ![] bcast_S_S128x24x4x4 : (⟨S_, .f32⟩ : BufTy).Contents (Elt F) → (⟨S128x24x4x4, .f32⟩ : BufTy).Contents (Elt F)),
    binary main_v41 main_v42 main_v43 (Host.divf : (⟨S128x24x4x4, .f32⟩ : BufTy).Contents (Elt F) → (⟨S128x24x4x4, .f32⟩ : BufTy).Contents (Elt F) → (⟨S128x24x4x4, .f32⟩ : BufTy).Contents (Elt F)),
    reshape main_v39 main_v44 (rfl : (.f32 : EltTy) = .f32) shapeCasts_S128x24x24x24_S128x24x4x6x4x6,
    nullary main_cst_6 (constant S_ .f32 0x00000000#32),
    binary main_v44 main_cst_6 main_v45 ((fun x v => Host.reduceAdd x v reducesTo_S128x24x4x6x4x6_S128x24x4x4_d3_5 h_S_) : (⟨S128x24x4x6x4x6, .f32⟩ : BufTy).Contents (Elt F) → (⟨S_, .f32⟩ : BufTy).Contents (Elt F) → (⟨S128x24x4x4, .f32⟩ : BufTy).Contents (Elt F)),
    nullary main_cst_7 (constant S_ .f32 0x42100000#32),
    unary main_cst_7 main_v46 (broadcastInDim S128x24x4x4 ![] bcast_S_S128x24x4x4 : (⟨S_, .f32⟩ : BufTy).Contents (Elt F) → (⟨S128x24x4x4, .f32⟩ : BufTy).Contents (Elt F)),
    binary main_v45 main_v46 main_v47 (Host.divf : (⟨S128x24x4x4, .f32⟩ : BufTy).Contents (Elt F) → (⟨S128x24x4x4, .f32⟩ : BufTy).Contents (Elt F) → (⟨S128x24x4x4, .f32⟩ : BufTy).Contents (Elt F)),
    reshape main_v47 main_v48 (rfl : (.f32 : EltTy) = .f32) shapeCasts_S128x24x4x4_S128x24x16,
    unary main_v48 main_v49 ((transpose S128x16x24 [0, 2, 1] · transposes_S128x24x16_S128x16x24_0_2_1) : (⟨S128x24x16, .f32⟩ : BufTy).Contents (Elt F) → (⟨S128x16x24, .f32⟩ : BufTy).Contents (Elt F)),
    reshape main_v43 main_v50 (rfl : (.f32 : EltTy) = .f32) shapeCasts_S128x24x4x4_S128x24x16 ]

/-- @main's operations 61 … 90 of 194 (window `main_part1`). -/
abbrev ops_part1_0 : List (HloOp τ sig (Elt F)) :=
  [ unary main_v50 main_v51 ((transpose S128x16x24 [0, 2, 1] · transposes_S128x24x16_S128x16x24_0_2_1) : (⟨S128x24x16, .f32⟩ : BufTy).Contents (Elt F) → (⟨S128x16x24, .f32⟩ : BufTy).Contents (Elt F)),
    reshape main_v37 main_v52 (rfl : (.f32 : EltTy) = .f32) shapeCasts_S128x24x24x24_S128x24x576,
    unary main_v52 main_v53 ((transpose S128x576x24 [0, 2, 1] · transposes_S128x24x576_S128x576x24_0_2_1) : (⟨S128x24x576, .f32⟩ : BufTy).Contents (Elt F) → (⟨S128x576x24, .f32⟩ : BufTy).Contents (Elt F)),
    TRef.binary (TRef.of (T := ⟨S128x16x24, .f32⟩) main_v51) (TRef.of (T := ⟨S128x16x24, .f32⟩) main_v51) (TRef.of (T := ⟨S128x16x24, .f32⟩) main_call0_v0) mulf,
    TRef.nullary (TRef.of (T := ⟨S_, .f32⟩) main_call0_cst) (constant S_ .f32 0x00000000#32),
    TRef.binary (TRef.of (T := ⟨S128x16x24, .f32⟩) main_call0_v0) (TRef.of (T := ⟨S_, .f32⟩) main_call0_cst) (TRef.of (T := ⟨S128x16, .f32⟩) main_call0_v1) (fun x v => Host.reduceAdd x v reducesTo_S128x16x24_S128x16_d2 h_S_),
    TRef.unary (TRef.of (T := ⟨S128x16, .f32⟩) main_call0_v1) (TRef.of (T := ⟨S128x16x1, .f32⟩) main_call0_v2) (broadcastInDim S128x16x1 ![0, 1] bcast_S128x16_S128x16x1_0_1),
    TRef.unary (TRef.of (T := ⟨S128x16x1, .f32⟩) main_call0_v2) (TRef.of (T := ⟨S128x16x1, .f32⟩) main_v54) Host.sqrt,
    nullary main_cst_8 (constant S_ .f32 0x2B8CBCCC#32),
    unary main_cst_8 main_v55 (broadcastInDim S128x16x1 ![] bcast_S_S128x16x1 : (⟨S_, .f32⟩ : BufTy).Contents (Elt F) → (⟨S128x16x1, .f32⟩ : BufTy).Contents (Elt F)),
    binary main_v54 main_v55 main_v56 (maximumf : (⟨S128x16x1, .f32⟩ : BufTy).Contents (Elt F) → (⟨S128x16x1, .f32⟩ : BufTy).Contents (Elt F) → (⟨S128x16x1, .f32⟩ : BufTy).Contents (Elt F)),
    unary main_v56 main_v57 (broadcastInDim S128x16x24 ![0, 1, 2] bcast_S128x16x1_S128x16x24_0_1_2 : (⟨S128x16x1, .f32⟩ : BufTy).Contents (Elt F) → (⟨S128x16x24, .f32⟩ : BufTy).Contents (Elt F)),
    binary main_v51 main_v57 main_v58 (Host.divf : (⟨S128x16x24, .f32⟩ : BufTy).Contents (Elt F) → (⟨S128x16x24, .f32⟩ : BufTy).Contents (Elt F) → (⟨S128x16x24, .f32⟩ : BufTy).Contents (Elt F)),
    TRef.binary (TRef.of (T := ⟨S128x576x24, .f32⟩) main_v53) (TRef.of (T := ⟨S128x576x24, .f32⟩) main_v53) (TRef.of (T := ⟨S128x576x24, .f32⟩) main_call1_v0) mulf,
    TRef.nullary (TRef.of (T := ⟨S_, .f32⟩) main_call1_cst) (constant S_ .f32 0x00000000#32),
    TRef.binary (TRef.of (T := ⟨S128x576x24, .f32⟩) main_call1_v0) (TRef.of (T := ⟨S_, .f32⟩) main_call1_cst) (TRef.of (T := ⟨S128x576, .f32⟩) main_call1_v1) (fun x v => Host.reduceAdd x v reducesTo_S128x576x24_S128x576_d2 h_S_),
    TRef.unary (TRef.of (T := ⟨S128x576, .f32⟩) main_call1_v1) (TRef.of (T := ⟨S128x576x1, .f32⟩) main_call1_v2) (broadcastInDim S128x576x1 ![0, 1] bcast_S128x576_S128x576x1_0_1),
    TRef.unary (TRef.of (T := ⟨S128x576x1, .f32⟩) main_call1_v2) (TRef.of (T := ⟨S128x576x1, .f32⟩) main_v59) Host.sqrt,
    nullary main_cst_9 (constant S_ .f32 0x2B8CBCCC#32),
    unary main_cst_9 main_v60 (broadcastInDim S128x576x1 ![] bcast_S_S128x576x1 : (⟨S_, .f32⟩ : BufTy).Contents (Elt F) → (⟨S128x576x1, .f32⟩ : BufTy).Contents (Elt F)),
    binary main_v59 main_v60 main_v61 (maximumf : (⟨S128x576x1, .f32⟩ : BufTy).Contents (Elt F) → (⟨S128x576x1, .f32⟩ : BufTy).Contents (Elt F) → (⟨S128x576x1, .f32⟩ : BufTy).Contents (Elt F)),
    unary main_v61 main_v62 (broadcastInDim S128x576x24 ![0, 1, 2] bcast_S128x576x1_S128x576x24_0_1_2 : (⟨S128x576x1, .f32⟩ : BufTy).Contents (Elt F) → (⟨S128x576x24, .f32⟩ : BufTy).Contents (Elt F)),
    binary main_v53 main_v62 main_v63 (Host.divf : (⟨S128x576x24, .f32⟩ : BufTy).Contents (Elt F) → (⟨S128x576x24, .f32⟩ : BufTy).Contents (Elt F) → (⟨S128x576x24, .f32⟩ : BufTy).Contents (Elt F)),
    unary main_v58 main_v64 (broadcastInDim S128x16x1x24 ![0, 1, 3] bcast_S128x16x24_S128x16x1x24_0_1_3 : (⟨S128x16x24, .f32⟩ : BufTy).Contents (Elt F) → (⟨S128x16x1x24, .f32⟩ : BufTy).Contents (Elt F)),
    unary main_v63 main_v65 (broadcastInDim S128x1x576x24 ![0, 2, 3] bcast_S128x576x24_S128x1x576x24_0_2_3 : (⟨S128x576x24, .f32⟩ : BufTy).Contents (Elt F) → (⟨S128x1x576x24, .f32⟩ : BufTy).Contents (Elt F)),
    unary main_v64 main_v66 (broadcastInDim S128x16x576x24 ![0, 1, 2, 3] bcast_S128x16x1x24_S128x16x576x24_0_1_2_3 : (⟨S128x16x1x24, .f32⟩ : BufTy).Contents (Elt F) → (⟨S128x16x576x24, .f32⟩ : BufTy).Contents (Elt F)),
    unary main_v65 main_v67 (broadcastInDim S128x16x576x24 ![0, 1, 2, 3] bcast_S128x1x576x24_S128x16x576x24_0_1_2_3 : (⟨S128x1x576x24, .f32⟩ : BufTy).Contents (Elt F) → (⟨S128x16x576x24, .f32⟩ : BufTy).Contents (Elt F)),
    binary main_v66 main_v67 main_v68 (subf : (⟨S128x16x576x24, .f32⟩ : BufTy).Contents (Elt F) → (⟨S128x16x576x24, .f32⟩ : BufTy).Contents (Elt F) → (⟨S128x16x576x24, .f32⟩ : BufTy).Contents (Elt F)),
    TRef.binary (TRef.of (T := ⟨S128x16x576x24, .f32⟩) main_v68) (TRef.of (T := ⟨S128x16x576x24, .f32⟩) main_v68) (TRef.of (T := ⟨S128x16x576x24, .f32⟩) main_call2_v0) mulf,
    TRef.nullary (TRef.of (T := ⟨S_, .f32⟩) main_call2_cst) (constant S_ .f32 0x00000000#32) ]

/-- @main's operations 91 … 120 of 194 (window `main_part1`). -/
abbrev ops_part1_1 : List (HloOp τ sig (Elt F)) :=
  [ TRef.binary (TRef.of (T := ⟨S128x16x576x24, .f32⟩) main_call2_v0) (TRef.of (T := ⟨S_, .f32⟩) main_call2_cst) (TRef.of (T := ⟨S128x16x576, .f32⟩) main_call2_v1) (fun x v => Host.reduceAdd x v reducesTo_S128x16x576x24_S128x16x576_d3 h_S_),
    TRef.unary (TRef.of (T := ⟨S128x16x576, .f32⟩) main_call2_v1) (TRef.of (T := ⟨S128x16x576, .f32⟩) main_v69) Host.sqrt,
    unary main_v69 main_v70 (Host.negf : (⟨S128x16x576, .f32⟩ : BufTy).Contents (Elt F) → (⟨S128x16x576, .f32⟩ : BufTy).Contents (Elt F)),
    unary main_v70 main_v71 (Host.exp : (⟨S128x16x576, .f32⟩ : BufTy).Contents (Elt F) → (⟨S128x16x576, .f32⟩ : BufTy).Contents (Elt F)),
    unary main_arg9 main_v72 (broadcastInDim S1x1x1 ![2] bcast_S1_S1x1x1_2 : (⟨S1, .f32⟩ : BufTy).Contents (Elt F) → (⟨S1x1x1, .f32⟩ : BufTy).Contents (Elt F)),
    unary main_v72 main_v73 (broadcastInDim S128x16x576 ![0, 1, 2] bcast_S1x1x1_S128x16x576_0_1_2 : (⟨S1x1x1, .f32⟩ : BufTy).Contents (Elt F) → (⟨S128x16x576, .f32⟩ : BufTy).Contents (Elt F)),
    binary main_v73 main_v71 main_v74 (mulf : (⟨S128x16x576, .f32⟩ : BufTy).Contents (Elt F) → (⟨S128x16x576, .f32⟩ : BufTy).Contents (Elt F) → (⟨S128x16x576, .f32⟩ : BufTy).Contents (Elt F)),
    unary main_arg10 main_v75 (broadcastInDim S1x1x1 ![2] bcast_S1_S1x1x1_2 : (⟨S1, .f32⟩ : BufTy).Contents (Elt F) → (⟨S1x1x1, .f32⟩ : BufTy).Contents (Elt F)),
    unary main_v75 main_v76 (broadcastInDim S128x16x576 ![0, 1, 2] bcast_S1x1x1_S128x16x576_0_1_2 : (⟨S1x1x1, .f32⟩ : BufTy).Contents (Elt F) → (⟨S128x16x576, .f32⟩ : BufTy).Contents (Elt F)),
    binary main_v76 main_v74 main_v77 (addf : (⟨S128x16x576, .f32⟩ : BufTy).Contents (Elt F) → (⟨S128x16x576, .f32⟩ : BufTy).Contents (Elt F) → (⟨S128x16x576, .f32⟩ : BufTy).Contents (Elt F)),
    nullary main_cst_10 (constant S_ .f32 0x3E4CCCCD#32),
    TRef.nullary (TRef.of (T := ⟨S_, .f32⟩) main_call3_cst) (constant S_ .f32 0x00000000#32),
    TRef.unary (TRef.of (T := ⟨S_, .f32⟩) main_call3_cst) (TRef.of (T := ⟨S128x16x576, .f32⟩) main_call3_v0) (broadcastInDim S128x16x576 ![] bcast_S_S128x16x576),
    TRef.binary (TRef.of (T := ⟨S128x16x576, .f32⟩) main_v77) (TRef.of (T := ⟨S128x16x576, .f32⟩) main_call3_v0) (TRef.of (T := ⟨S128x16x576, .i1⟩) main_call3_v1) (cmpf .oge),
    TRef.unary (TRef.of (T := ⟨S_, .f32⟩) main_cst_10) (TRef.of (T := ⟨S_, .f32⟩) main_call3_v2) id,
    TRef.unary (TRef.of (T := ⟨S_, .f32⟩) main_call3_v2) (TRef.of (T := ⟨S128x16x576, .f32⟩) main_call3_v3) (broadcastInDim S128x16x576 ![] bcast_S_S128x16x576),
    TRef.binary (TRef.of (T := ⟨S128x16x576, .f32⟩) main_call3_v3) (TRef.of (T := ⟨S128x16x576, .f32⟩) main_v77) (TRef.of (T := ⟨S128x16x576, .f32⟩) main_call3_v4) mulf,
    TRef.ternary (TRef.of (T := ⟨S128x16x576, .i1⟩) main_call3_v1) (TRef.of (T := ⟨S128x16x576, .f32⟩) main_v77) (TRef.of (T := ⟨S128x16x576, .f32⟩) main_call3_v4) (TRef.of (T := ⟨S128x16x576, .f32⟩) main_v78) select,
    TRef.nullary (TRef.of (T := ⟨S128x16x576, .i32⟩) main_call4_v0) (iotaInDim S128x16x576 32 1),
    TRef.nullary (TRef.of (T := ⟨S_, .f32⟩) main_call4_cst) (constant S_ .f32 0xFF800000#32),
    TRef.nullary (TRef.of (T := ⟨S_, .i32⟩) main_call4_c) (constantI S_ 32 0#32),
    TRef.quaternary (TRef.of (T := ⟨S128x16x576, .f32⟩) main_v78) (TRef.of (T := ⟨S128x16x576, .i32⟩) main_call4_v0) (TRef.of (T := ⟨S_, .f32⟩) main_call4_cst) (TRef.of (T := ⟨S_, .i32⟩) main_call4_c) (TRef.of (T := ⟨S128x576, .f32⟩) main_call4_v1_0) (fun x y u v => (fun j => (Host.argReduce reducer_argmax_f32_i32 x y u v reducesTo_S128x16x576_S128x576_d1 h_S_ j).1)),
    TRef.quaternary (TRef.of (T := ⟨S128x16x576, .f32⟩) main_v78) (TRef.of (T := ⟨S128x16x576, .i32⟩) main_call4_v0) (TRef.of (T := ⟨S_, .f32⟩) main_call4_cst) (TRef.of (T := ⟨S_, .i32⟩) main_call4_c) (TRef.of (T := ⟨S128x576, .i32⟩) main_v79) (fun x y u v => (fun j => (Host.argReduce reducer_argmax_f32_i32 x y u v reducesTo_S128x16x576_S128x576_d1 h_S_ j).2)),
    TRef.unary (TRef.of (T := ⟨S128x576, .i32⟩) main_v79) (TRef.of (T := ⟨S128x576x1, .i32⟩) main_call5_v0) (broadcastInDim S128x576x1 ![0, 1] bcast_S128x576_S128x576x1_0_1),
    TRef.nullary (TRef.of (T := ⟨S1x1x16, .i32⟩) main_call5_v1) (iotaInDim S1x1x16 32 2),
    TRef.unary (TRef.of (T := ⟨S128x576x1, .i32⟩) main_call5_v0) (TRef.of (T := ⟨S128x576x16, .i32⟩) main_call5_v2) (broadcastInDim S128x576x16 ![0, 1, 2] bcast_S128x576x1_S128x576x16_0_1_2),
    TRef.unary (TRef.of (T := ⟨S1x1x16, .i32⟩) main_call5_v1) (TRef.of (T := ⟨S128x576x16, .i32⟩) main_call5_v3) (broadcastInDim S128x576x16 ![0, 1, 2] bcast_S1x1x16_S128x576x16_0_1_2),
    TRef.binary (TRef.of (T := ⟨S128x576x16, .i32⟩) main_call5_v2) (TRef.of (T := ⟨S128x576x16, .i32⟩) main_call5_v3) (TRef.of (T := ⟨S128x576x16, .i1⟩) main_call5_v4) (cmpi .eq),
    TRef.unary (TRef.of (T := ⟨S128x576x16, .i1⟩) main_call5_v4) (TRef.of (T := ⟨S128x576x16, .f32⟩) main_v80) (uitofp .f32),
    unary main_v80 main_v81 ((transpose S128x16x576 [0, 2, 1] · transposes_S128x576x16_S128x16x576_0_2_1) : (⟨S128x576x16, .f32⟩ : BufTy).Contents (Elt F) → (⟨S128x16x576, .f32⟩ : BufTy).Contents (Elt F)) ]

/-- @main's operations 121 … 146 of 194 (window `main_part1`). -/
abbrev ops_part1_2 : List (HloOp τ sig (Elt F)) :=
  [ binary main_v78 main_v81 main_v82 (mulf : (⟨S128x16x576, .f32⟩ : BufTy).Contents (Elt F) → (⟨S128x16x576, .f32⟩ : BufTy).Contents (Elt F) → (⟨S128x16x576, .f32⟩ : BufTy).Contents (Elt F)),
    reshape main_v39 main_v83 (rfl : (.f32 : EltTy) = .f32) shapeCasts_S128x24x24x24_S128x24x576,
    unary main_v83 main_v84 ((transpose S128x576x24 [0, 2, 1] · transposes_S128x24x576_S128x576x24_0_2_1) : (⟨S128x24x576, .f32⟩ : BufTy).Contents (Elt F) → (⟨S128x576x24, .f32⟩ : BufTy).Contents (Elt F)),
    binary main_v82 main_v84 main_v85 ((fun l r => Host.dotGeneral dot_S128x16x576_S128x576x24_S128x16x24_2_1_1_2_0_0 none l r) : (⟨S128x16x576, .f32⟩ : BufTy).Contents (Elt F) → (⟨S128x576x24, .f32⟩ : BufTy).Contents (Elt F) → (⟨S128x16x24, .f32⟩ : BufTy).Contents (Elt F)),
    binary main_v85 main_v49 main_v86 (addf : (⟨S128x16x24, .f32⟩ : BufTy).Contents (Elt F) → (⟨S128x16x24, .f32⟩ : BufTy).Contents (Elt F) → (⟨S128x16x24, .f32⟩ : BufTy).Contents (Elt F)),
    nullary main_cst_11 (constant S_ .f32 0x00000000#32),
    binary main_v81 main_cst_11 main_v87 ((fun x v => Host.reduceAdd x v reducesTo_S128x16x576_S128x16_d2 h_S_) : (⟨S128x16x576, .f32⟩ : BufTy).Contents (Elt F) → (⟨S_, .f32⟩ : BufTy).Contents (Elt F) → (⟨S128x16, .f32⟩ : BufTy).Contents (Elt F)),
    unary main_v87 main_v88 (broadcastInDim S128x16x1 ![0, 1] bcast_S128x16_S128x16x1_0_1 : (⟨S128x16, .f32⟩ : BufTy).Contents (Elt F) → (⟨S128x16x1, .f32⟩ : BufTy).Contents (Elt F)),
    nullary main_cst_12 (constant S_ .f32 0x3F800000#32),
    unary main_cst_12 main_v89 (broadcastInDim S128x16x1 ![] bcast_S_S128x16x1 : (⟨S_, .f32⟩ : BufTy).Contents (Elt F) → (⟨S128x16x1, .f32⟩ : BufTy).Contents (Elt F)),
    binary main_v88 main_v89 main_v90 (addf : (⟨S128x16x1, .f32⟩ : BufTy).Contents (Elt F) → (⟨S128x16x1, .f32⟩ : BufTy).Contents (Elt F) → (⟨S128x16x1, .f32⟩ : BufTy).Contents (Elt F)),
    unary main_v90 main_v91 (broadcastInDim S128x16x24 ![0, 1, 2] bcast_S128x16x1_S128x16x24_0_1_2 : (⟨S128x16x1, .f32⟩ : BufTy).Contents (Elt F) → (⟨S128x16x24, .f32⟩ : BufTy).Contents (Elt F)),
    binary main_v86 main_v91 main_v92 (Host.divf : (⟨S128x16x24, .f32⟩ : BufTy).Contents (Elt F) → (⟨S128x16x24, .f32⟩ : BufTy).Contents (Elt F) → (⟨S128x16x24, .f32⟩ : BufTy).Contents (Elt F)),
    binary main_v82 main_v92 main_v93 ((fun l r => Host.dotGeneral dot_S128x16x576_S128x16x24_S128x576x24_1_1_2_2_0_0 none l r) : (⟨S128x16x576, .f32⟩ : BufTy).Contents (Elt F) → (⟨S128x16x24, .f32⟩ : BufTy).Contents (Elt F) → (⟨S128x576x24, .f32⟩ : BufTy).Contents (Elt F)),
    unary main_v93 main_v94 ((transpose S128x24x576 [0, 2, 1] · transposes_S128x576x24_S128x24x576_0_2_1) : (⟨S128x576x24, .f32⟩ : BufTy).Contents (Elt F) → (⟨S128x24x576, .f32⟩ : BufTy).Contents (Elt F)),
    reshape main_v94 main_v95 (rfl : (.f32 : EltTy) = .f32) shapeCasts_S128x24x576_S128x24x24x24,
    reshape main_v95 main_v96 (rfl : (.f32 : EltTy) = .f32) shapeCasts_S128x24x24x24_S16x192x24x24,
    binary main_arg11 main_v96 main_v97 ((fun l r => Host.dotGeneral dot_S384x192_S16x192x24x24_S384x16x24x24_1_1_0_023_n_n none l r) : (⟨S384x192, .f32⟩ : BufTy).Contents (Elt F) → (⟨S16x192x24x24, .f32⟩ : BufTy).Contents (Elt F) → (⟨S384x16x24x24, .f32⟩ : BufTy).Contents (Elt F)),
    unary main_v97 main_v98 ((transpose S16x384x24x24 [1, 0, 2, 3] · transposes_S384x16x24x24_S16x384x24x24_1_0_2_3) : (⟨S384x16x24x24, .f32⟩ : BufTy).Contents (Elt F) → (⟨S16x384x24x24, .f32⟩ : BufTy).Contents (Elt F)),
    unary main_arg12 main_v99 (broadcastInDim S1x384x1x1 ![1] bcast_S384_S1x384x1x1_1 : (⟨S384, .f32⟩ : BufTy).Contents (Elt F) → (⟨S1x384x1x1, .f32⟩ : BufTy).Contents (Elt F)),
    unary main_v99 main_v100 (broadcastInDim S16x384x24x24 ![0, 1, 2, 3] bcast_S1x384x1x1_S16x384x24x24_0_1_2_3 : (⟨S1x384x1x1, .f32⟩ : BufTy).Contents (Elt F) → (⟨S16x384x24x24, .f32⟩ : BufTy).Contents (Elt F)),
    binary main_v98 main_v100 main_v101 (addf : (⟨S16x384x24x24, .f32⟩ : BufTy).Contents (Elt F) → (⟨S16x384x24x24, .f32⟩ : BufTy).Contents (Elt F) → (⟨S16x384x24x24, .f32⟩ : BufTy).Contents (Elt F)),
    reshape main_v101 main_v102 (rfl : (.f32 : EltTy) = .f32) shapeCasts_S16x384x24x24_S16x384x576,
    unary main_v102 main_v103 ((transpose S16x576x384 [0, 2, 1] · transposes_S16x384x576_S16x576x384_0_2_1) : (⟨S16x384x576, .f32⟩ : BufTy).Contents (Elt F) → (⟨S16x576x384, .f32⟩ : BufTy).Contents (Elt F)),
    binary main_arg0 main_v103 main_v104 (addf : (⟨S16x576x384, .f32⟩ : BufTy).Contents (Elt F) → (⟨S16x576x384, .f32⟩ : BufTy).Contents (Elt F) → (⟨S16x576x384, .f32⟩ : BufTy).Contents (Elt F)),
    nullary main_cst_13 (constant S_ .f32 0x00000000#32) ]

/-- Window `main_part1`'s operations. Not an abbreviation: `main_eq` below splits `ops` into the windows and no further. -/
def ops_part1 : List (HloOp τ sig (Elt F)) :=
  ops_part1_0 ++ (ops_part1_1 ++ (ops_part1_2))

/-- @main's operations 147 … 194 of 194 (window `main_part2`). -/
abbrev ops_part2 : List (HloOp τ sig (Elt F)) :=
  [ binary main_v104 main_cst_13 main_v105 ((fun x v => Host.reduceAdd x v reducesTo_S16x576x384_S16x576_d2 h_S_) : (⟨S16x576x384, .f32⟩ : BufTy).Contents (Elt F) → (⟨S_, .f32⟩ : BufTy).Contents (Elt F) → (⟨S16x576, .f32⟩ : BufTy).Contents (Elt F)),
    unary main_v105 main_v106 (broadcastInDim S16x576x1 ![0, 1] bcast_S16x576_S16x576x1_0_1 : (⟨S16x576, .f32⟩ : BufTy).Contents (Elt F) → (⟨S16x576x1, .f32⟩ : BufTy).Contents (Elt F)),
    nullary main_cst_14 (constant S_ .f32 0x43C00000#32),
    unary main_cst_14 main_v107 (broadcastInDim S16x576x1 ![] bcast_S_S16x576x1 : (⟨S_, .f32⟩ : BufTy).Contents (Elt F) → (⟨S16x576x1, .f32⟩ : BufTy).Contents (Elt F)),
    binary main_v106 main_v107 main_v108 (Host.divf : (⟨S16x576x1, .f32⟩ : BufTy).Contents (Elt F) → (⟨S16x576x1, .f32⟩ : BufTy).Contents (Elt F) → (⟨S16x576x1, .f32⟩ : BufTy).Contents (Elt F)),
    unary main_v108 main_v109 (broadcastInDim S16x576x384 ![0, 1, 2] bcast_S16x576x1_S16x576x384_0_1_2 : (⟨S16x576x1, .f32⟩ : BufTy).Contents (Elt F) → (⟨S16x576x384, .f32⟩ : BufTy).Contents (Elt F)),
    binary main_v104 main_v109 main_v110 (subf : (⟨S16x576x384, .f32⟩ : BufTy).Contents (Elt F) → (⟨S16x576x384, .f32⟩ : BufTy).Contents (Elt F) → (⟨S16x576x384, .f32⟩ : BufTy).Contents (Elt F)),
    binary main_v110 main_v110 main_v111 (mulf : (⟨S16x576x384, .f32⟩ : BufTy).Contents (Elt F) → (⟨S16x576x384, .f32⟩ : BufTy).Contents (Elt F) → (⟨S16x576x384, .f32⟩ : BufTy).Contents (Elt F)),
    nullary main_cst_15 (constant S_ .f32 0x00000000#32),
    binary main_v111 main_cst_15 main_v112 ((fun x v => Host.reduceAdd x v reducesTo_S16x576x384_S16x576_d2 h_S_) : (⟨S16x576x384, .f32⟩ : BufTy).Contents (Elt F) → (⟨S_, .f32⟩ : BufTy).Contents (Elt F) → (⟨S16x576, .f32⟩ : BufTy).Contents (Elt F)),
    unary main_v112 main_v113 (broadcastInDim S16x576x1 ![0, 1] bcast_S16x576_S16x576x1_0_1 : (⟨S16x576, .f32⟩ : BufTy).Contents (Elt F) → (⟨S16x576x1, .f32⟩ : BufTy).Contents (Elt F)),
    nullary main_cst_16 (constant S_ .f32 0x43C00000#32),
    unary main_cst_16 main_v114 (broadcastInDim S16x576x1 ![] bcast_S_S16x576x1 : (⟨S_, .f32⟩ : BufTy).Contents (Elt F) → (⟨S16x576x1, .f32⟩ : BufTy).Contents (Elt F)),
    binary main_v113 main_v114 main_v115 (Host.divf : (⟨S16x576x1, .f32⟩ : BufTy).Contents (Elt F) → (⟨S16x576x1, .f32⟩ : BufTy).Contents (Elt F) → (⟨S16x576x1, .f32⟩ : BufTy).Contents (Elt F)),
    unary main_v108 main_v116 (broadcastInDim S16x576x384 ![0, 1, 2] bcast_S16x576x1_S16x576x384_0_1_2 : (⟨S16x576x1, .f32⟩ : BufTy).Contents (Elt F) → (⟨S16x576x384, .f32⟩ : BufTy).Contents (Elt F)),
    binary main_v104 main_v116 main_v117 (subf : (⟨S16x576x384, .f32⟩ : BufTy).Contents (Elt F) → (⟨S16x576x384, .f32⟩ : BufTy).Contents (Elt F) → (⟨S16x576x384, .f32⟩ : BufTy).Contents (Elt F)),
    nullary main_cst_17 (constant S_ .f32 0x3727C5AC#32),
    unary main_cst_17 main_v118 (broadcastInDim S16x576x1 ![] bcast_S_S16x576x1 : (⟨S_, .f32⟩ : BufTy).Contents (Elt F) → (⟨S16x576x1, .f32⟩ : BufTy).Contents (Elt F)),
    binary main_v115 main_v118 main_v119 (addf : (⟨S16x576x1, .f32⟩ : BufTy).Contents (Elt F) → (⟨S16x576x1, .f32⟩ : BufTy).Contents (Elt F) → (⟨S16x576x1, .f32⟩ : BufTy).Contents (Elt F)),
    unary main_v119 main_v120 (Host.sqrt : (⟨S16x576x1, .f32⟩ : BufTy).Contents (Elt F) → (⟨S16x576x1, .f32⟩ : BufTy).Contents (Elt F)),
    unary main_v120 main_v121 (broadcastInDim S16x576x384 ![0, 1, 2] bcast_S16x576x1_S16x576x384_0_1_2 : (⟨S16x576x1, .f32⟩ : BufTy).Contents (Elt F) → (⟨S16x576x384, .f32⟩ : BufTy).Contents (Elt F)),
    binary main_v117 main_v121 main_v122 (Host.divf : (⟨S16x576x384, .f32⟩ : BufTy).Contents (Elt F) → (⟨S16x576x384, .f32⟩ : BufTy).Contents (Elt F) → (⟨S16x576x384, .f32⟩ : BufTy).Contents (Elt F)),
    unary main_arg3 main_v123 (broadcastInDim S1x1x384 ![2] bcast_S384_S1x1x384_2 : (⟨S384, .f32⟩ : BufTy).Contents (Elt F) → (⟨S1x1x384, .f32⟩ : BufTy).Contents (Elt F)),
    unary main_v123 main_v124 (broadcastInDim S16x576x384 ![0, 1, 2] bcast_S1x1x384_S16x576x384_0_1_2 : (⟨S1x1x384, .f32⟩ : BufTy).Contents (Elt F) → (⟨S16x576x384, .f32⟩ : BufTy).Contents (Elt F)),
    binary main_v122 main_v124 main_v125 (mulf : (⟨S16x576x384, .f32⟩ : BufTy).Contents (Elt F) → (⟨S16x576x384, .f32⟩ : BufTy).Contents (Elt F) → (⟨S16x576x384, .f32⟩ : BufTy).Contents (Elt F)),
    unary main_arg4 main_v126 (broadcastInDim S1x1x384 ![2] bcast_S384_S1x1x384_2 : (⟨S384, .f32⟩ : BufTy).Contents (Elt F) → (⟨S1x1x384, .f32⟩ : BufTy).Contents (Elt F)),
    unary main_v126 main_v127 (broadcastInDim S16x576x384 ![0, 1, 2] bcast_S1x1x384_S16x576x384_0_1_2 : (⟨S1x1x384, .f32⟩ : BufTy).Contents (Elt F) → (⟨S16x576x384, .f32⟩ : BufTy).Contents (Elt F)),
    binary main_v125 main_v127 main_v128 (addf : (⟨S16x576x384, .f32⟩ : BufTy).Contents (Elt F) → (⟨S16x576x384, .f32⟩ : BufTy).Contents (Elt F) → (⟨S16x576x384, .f32⟩ : BufTy).Contents (Elt F)),
    unary main_arg13 main_v129 ((transpose S384x1536 [1, 0] · transposes_S1536x384_S384x1536_1_0) : (⟨S1536x384, .f32⟩ : BufTy).Contents (Elt F) → (⟨S384x1536, .f32⟩ : BufTy).Contents (Elt F)),
    binary main_v128 main_v129 main_v130 ((fun l r => Host.dotGeneral dot_S16x576x384_S384x1536_S16x576x1536_2_0_01_1_n_n none l r) : (⟨S16x576x384, .f32⟩ : BufTy).Contents (Elt F) → (⟨S384x1536, .f32⟩ : BufTy).Contents (Elt F) → (⟨S16x576x1536, .f32⟩ : BufTy).Contents (Elt F)),
    unary main_arg14 main_v131 (broadcastInDim S1x1x1536 ![2] bcast_S1536_S1x1x1536_2 : (⟨S1536, .f32⟩ : BufTy).Contents (Elt F) → (⟨S1x1x1536, .f32⟩ : BufTy).Contents (Elt F)),
    unary main_v131 main_v132 (broadcastInDim S16x576x1536 ![0, 1, 2] bcast_S1x1x1536_S16x576x1536_0_1_2 : (⟨S1x1x1536, .f32⟩ : BufTy).Contents (Elt F) → (⟨S16x576x1536, .f32⟩ : BufTy).Contents (Elt F)),
    binary main_v130 main_v132 main_v133 (addf : (⟨S16x576x1536, .f32⟩ : BufTy).Contents (Elt F) → (⟨S16x576x1536, .f32⟩ : BufTy).Contents (Elt F) → (⟨S16x576x1536, .f32⟩ : BufTy).Contents (Elt F)),
    nullary main_cst_18 (constant S_ .f32 0x3F000000#32),
    unary main_cst_18 main_v134 (broadcastInDim S16x576x1536 ![] bcast_S_S16x576x1536 : (⟨S_, .f32⟩ : BufTy).Contents (Elt F) → (⟨S16x576x1536, .f32⟩ : BufTy).Contents (Elt F)),
    binary main_v134 main_v133 main_v135 (mulf : (⟨S16x576x1536, .f32⟩ : BufTy).Contents (Elt F) → (⟨S16x576x1536, .f32⟩ : BufTy).Contents (Elt F) → (⟨S16x576x1536, .f32⟩ : BufTy).Contents (Elt F)),
    unary main_v133 main_v136 (Host.negf : (⟨S16x576x1536, .f32⟩ : BufTy).Contents (Elt F) → (⟨S16x576x1536, .f32⟩ : BufTy).Contents (Elt F)),
    nullary main_cst_19 (constant S_ .f32 0x3F3504F3#32),
    unary main_cst_19 main_v137 (broadcastInDim S16x576x1536 ![] bcast_S_S16x576x1536 : (⟨S_, .f32⟩ : BufTy).Contents (Elt F) → (⟨S16x576x1536, .f32⟩ : BufTy).Contents (Elt F)),
    binary main_v136 main_v137 main_v138 (mulf : (⟨S16x576x1536, .f32⟩ : BufTy).Contents (Elt F) → (⟨S16x576x1536, .f32⟩ : BufTy).Contents (Elt F) → (⟨S16x576x1536, .f32⟩ : BufTy).Contents (Elt F)),
    unary main_v138 main_v139 (Host.erfc : (⟨S16x576x1536, .f32⟩ : BufTy).Contents (Elt F) → (⟨S16x576x1536, .f32⟩ : BufTy).Contents (Elt F)),
    binary main_v135 main_v139 main_v140 (mulf : (⟨S16x576x1536, .f32⟩ : BufTy).Contents (Elt F) → (⟨S16x576x1536, .f32⟩ : BufTy).Contents (Elt F) → (⟨S16x576x1536, .f32⟩ : BufTy).Contents (Elt F)),
    unary main_arg15 main_v141 ((transpose S1536x384 [1, 0] · transposes_S384x1536_S1536x384_1_0) : (⟨S384x1536, .f32⟩ : BufTy).Contents (Elt F) → (⟨S1536x384, .f32⟩ : BufTy).Contents (Elt F)),
    binary main_v140 main_v141 main_v142 ((fun l r => Host.dotGeneral dot_S16x576x1536_S1536x384_S16x576x384_2_0_01_1_n_n none l r) : (⟨S16x576x1536, .f32⟩ : BufTy).Contents (Elt F) → (⟨S1536x384, .f32⟩ : BufTy).Contents (Elt F) → (⟨S16x576x384, .f32⟩ : BufTy).Contents (Elt F)),
    unary main_arg16 main_v143 (broadcastInDim S1x1x384 ![2] bcast_S384_S1x1x384_2 : (⟨S384, .f32⟩ : BufTy).Contents (Elt F) → (⟨S1x1x384, .f32⟩ : BufTy).Contents (Elt F)),
    unary main_v143 main_v144 (broadcastInDim S16x576x384 ![0, 1, 2] bcast_S1x1x384_S16x576x384_0_1_2 : (⟨S1x1x384, .f32⟩ : BufTy).Contents (Elt F) → (⟨S16x576x384, .f32⟩ : BufTy).Contents (Elt F)),
    binary main_v142 main_v144 main_v145 (addf : (⟨S16x576x384, .f32⟩ : BufTy).Contents (Elt F) → (⟨S16x576x384, .f32⟩ : BufTy).Contents (Elt F) → (⟨S16x576x384, .f32⟩ : BufTy).Contents (Elt F)),
    binary main_v104 main_v145 main_v146 (addf : (⟨S16x576x384, .f32⟩ : BufTy).Contents (Elt F) → (⟨S16x576x384, .f32⟩ : BufTy).Contents (Elt F) → (⟨S16x576x384, .f32⟩ : BufTy).Contents (Elt F)) ]

/-- @main's 194 operations, in order (a called function's operations stand in its call's place, spelt `TRef.…`). -/
abbrev ops : List (HloOp τ sig (Elt F)) :=
  ops_part0 ++ (ops_part1 ++ (ops_part2))

set_option maxRecDepth 8192 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., reshape_bufs_sub .., unary_bufs_sub .., binary_bufs_sub .., unary_bufs_sub .., unary_bufs_sub .., unary_bufs_sub .., binary_bufs_sub .., binary_bufs_sub .., unary_bufs_sub .., unary_bufs_sub .., unary_bufs_sub .., binary_bufs_sub .., reshape_bufs_sub .., reshape_bufs_sub .., reshape_bufs_sub .., reshape_bufs_sub .., reshape_bufs_sub .., nullary_bufs_sub .., binary_bufs_sub .., nullary_bufs_sub .., unary_bufs_sub .., binary_bufs_sub .., reshape_bufs_sub .., nullary_bufs_sub .., binary_bufs_sub .., nullary_bufs_sub .., unary_bufs_sub .., binary_bufs_sub .., reshape_bufs_sub .., unary_bufs_sub .., reshape_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨unary_bufs_sub .., reshape_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., unary_bufs_sub .., unary_bufs_sub .., unary_bufs_sub .., binary_bufs_sub .., binary_bufs_sub .., nullary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨binary_bufs_sub .., unary_bufs_sub .., unary_bufs_sub .., unary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨binary_bufs_sub .., reshape_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., unary_bufs_sub .., reshape_bufs_sub .., reshape_bufs_sub .., binary_bufs_sub .., unary_bufs_sub .., unary_bufs_sub .., unary_bufs_sub .., binary_bufs_sub .., reshape_bufs_sub .., unary_bufs_sub .., binary_bufs_sub .., nullary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., unary_bufs_sub .., binary_bufs_sub .., unary_bufs_sub .., unary_bufs_sub .., binary_bufs_sub .., binary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part1, List.mem_append, or_assoc] at h
    rcases h with h | h | h | h | h
    exacts [List.forall_iff_forall_mem.mp ops_part0_sub op h, List.forall_iff_forall_mem.mp ops_part1_0_sub op h, List.forall_iff_forall_mem.mp ops_part1_1_sub op h, List.forall_iff_forall_mem.mp ops_part1_2_sub op h, List.forall_iff_forall_mem.mp ops_part2_sub op h]
theorem ops_fresh : ∀ op ∈ (ops : List (HloOp τ sig (Elt F))), op.fresh = ∅ := fun op h => by
    simp only [ops, ops_part1, List.mem_append, or_assoc] at h
    rcases h with h | h | h | h | h
    exacts [List.forall_iff_forall_mem.mp ops_part0_fresh op h, List.forall_iff_forall_mem.mp ops_part1_0_fresh op h, List.forall_iff_forall_mem.mp ops_part1_1_fresh op h, List.forall_iff_forall_mem.mp ops_part1_2_fresh op h, List.forall_iff_forall_mem.mp ops_part2_fresh op h]

set_option maxRecDepth 8192 in
/-- `main_v3`'s composed term of the arguments (named: it is used 2 times). -/
def res_main_v3 (V0 : Valuation τ sig (Elt F)) : (Proc.devRef .tc main_v3 : DevRef τ sig).ty.Contents (Elt F) :=
  Host.divf (broadcastInDim S16x576x1 ![0, 1] bcast_S16x576_S16x576x1_0_1 (Host.reduceAdd (V0 (Proc.devRef .tc main_arg0)) (constant S_ .f32 0x00000000#32) reducesTo_S16x576x384_S16x576_d2 h_S_)) (broadcastInDim S16x576x1 ![] bcast_S_S16x576x1 (constant S_ .f32 0x43C00000#32))

set_option maxRecDepth 8192 in
/-- `main_v5`'s composed term of the arguments (named: it is used 2 times). -/
def res_main_v5 (V0 : Valuation τ sig (Elt F)) : (Proc.devRef .tc main_v5 : DevRef τ sig).ty.Contents (Elt F) :=
  subf (V0 (Proc.devRef .tc main_arg0)) (broadcastInDim S16x576x384 ![0, 1, 2] bcast_S16x576x1_S16x576x384_0_1_2 (res_main_v3 V0))

set_option maxRecDepth 8192 in
/-- `main_v25`'s composed term of the arguments (named: it is used 2 times). -/
def res_main_v25 (V0 : Valuation τ sig (Elt F)) : (Proc.devRef .tc main_v25 : DevRef τ sig).ty.Contents (Elt F) :=
  transpose S16x384x24x24 [0, 3, 1, 2] (shapeCast _ (addf (mulf (Host.divf (subf (V0 (Proc.devRef .tc main_arg0)) (broadcastInDim S16x576x384 ![0, 1, 2] bcast_S16x576x1_S16x576x384_0_1_2 (res_main_v3 V0))) (broadcastInDim S16x576x384 ![0, 1, 2] bcast_S16x576x1_S16x576x384_0_1_2 (Host.sqrt (addf (Host.divf (broadcastInDim S16x576x1 ![0, 1] bcast_S16x576_S16x576x1_0_1 (Host.reduceAdd (mulf (res_main_v5 V0) (res_main_v5 V0)) (constant S_ .f32 0x00000000#32) reducesTo_S16x576x384_S16x576_d2 h_S_)) (broadcastInDim S16x576x1 ![] bcast_S_S16x576x1 (constant S_ .f32 0x43C00000#32))) (broadcastInDim S16x576x1 ![] bcast_S_S16x576x1 (constant S_ .f32 0x3727C5AC#32)))))) (broadcastInDim S16x576x384 ![0, 1, 2] bcast_S1x1x384_S16x576x384_0_1_2 (broadcastInDim S1x1x384 ![2] bcast_S384_S1x1x384_2 (V0 (Proc.devRef .tc main_arg1))))) (broadcastInDim S16x576x384 ![0, 1, 2] bcast_S1x1x384_S16x576x384_0_1_2 (broadcastInDim S1x1x384 ![2] bcast_S384_S1x1x384_2 (V0 (Proc.devRef .tc main_arg2))))) shapeCasts_S16x576x384_S16x24x24x384) transposes_S16x24x24x384_S16x384x24x24_0_3_1_2

set_option maxRecDepth 8192 in
/-- `main_v37`'s composed term of the arguments (named: it is used 2 times). -/
def res_main_v37 (V0 : Valuation τ sig (Elt F)) : (Proc.devRef .tc main_v37 : DevRef τ sig).ty.Contents (Elt F) :=
  shapeCast _ (shapeCast _ (addf (transpose S16x192x24x24 [1, 0, 2, 3] (Host.dotGeneral dot_S192x384_S16x384x24x24_S192x16x24x24_1_1_0_023_n_n none (V0 (Proc.devRef .tc main_arg5)) (res_main_v25 V0)) transposes_S192x16x24x24_S16x192x24x24_1_0_2_3) (broadcastInDim S16x192x24x24 ![0, 1, 2, 3] bcast_S1x192x1x1_S16x192x24x24_0_1_2_3 (broadcastInDim S1x192x1x1 ![1] bcast_S192_S1x192x1x1_1 (V0 (Proc.devRef .tc main_arg6))))) shapeCasts_S16x192x24x24_S16x8x24x24x24) shapeCasts_S16x8x24x24x24_S128x24x24x24

set_option maxRecDepth 8192 in
/-- `main_v39`'s composed term of the arguments (named: it is used 2 times). -/
def res_main_v39 (V0 : Valuation τ sig (Elt F)) : (Proc.devRef .tc main_v39 : DevRef τ sig).ty.Contents (Elt F) :=
  shapeCast _ (shapeCast _ (addf (transpose S16x192x24x24 [1, 0, 2, 3] (Host.dotGeneral dot_S192x384_S16x384x24x24_S192x16x24x24_1_1_0_023_n_n none (V0 (Proc.devRef .tc main_arg7)) (res_main_v25 V0)) transposes_S192x16x24x24_S16x192x24x24_1_0_2_3) (broadcastInDim S16x192x24x24 ![0, 1, 2, 3] bcast_S1x192x1x1_S16x192x24x24_0_1_2_3 (broadcastInDim S1x192x1x1 ![1] bcast_S192_S1x192x1x1_1 (V0 (Proc.devRef .tc main_arg8))))) shapeCasts_S16x192x24x24_S16x8x24x24x24) shapeCasts_S16x8x24x24x24_S128x24x24x24

set_option maxRecDepth 8192 in
/-- `main_v51`'s composed term of the arguments (named: it is used 3 times). -/
def res_main_v51 (V0 : Valuation τ sig (Elt F)) : (Proc.devRef .tc main_v51 : DevRef τ sig).ty.Contents (Elt F) :=
  transpose S128x16x24 [0, 2, 1] (shapeCast _ (Host.divf (Host.reduceAdd (shapeCast _ (res_main_v37 V0) shapeCasts_S128x24x24x24_S128x24x4x6x4x6) (constant S_ .f32 0x00000000#32) reducesTo_S128x24x4x6x4x6_S128x24x4x4_d3_5 h_S_) (broadcastInDim S128x24x4x4 ![] bcast_S_S128x24x4x4 (constant S_ .f32 0x42100000#32))) shapeCasts_S128x24x4x4_S128x24x16) transposes_S128x24x16_S128x16x24_0_2_1

set_option maxRecDepth 8192 in
/-- `main_v53`'s composed term of the arguments (named: it is used 3 times). -/
def res_main_v53 (V0 : Valuation τ sig (Elt F)) : (Proc.devRef .tc main_v53 : DevRef τ sig).ty.Contents (Elt F) :=
  transpose S128x576x24 [0, 2, 1] (shapeCast _ (res_main_v37 V0) shapeCasts_S128x24x24x24_S128x24x576) transposes_S128x24x576_S128x576x24_0_2_1

set_option maxRecDepth 8192 in
/-- `main_v68`'s composed term of the arguments (named: it is used 2 times). -/
def res_main_v68 (V0 : Valuation τ sig (Elt F)) : (Proc.devRef .tc main_v68 : DevRef τ sig).ty.Contents (Elt F) :=
  subf (broadcastInDim S128x16x576x24 ![0, 1, 2, 3] bcast_S128x16x1x24_S128x16x576x24_0_1_2_3 (broadcastInDim S128x16x1x24 ![0, 1, 3] bcast_S128x16x24_S128x16x1x24_0_1_3 (Host.divf (res_main_v51 V0) (broadcastInDim S128x16x24 ![0, 1, 2] bcast_S128x16x1_S128x16x24_0_1_2 (maximumf (Host.sqrt (broadcastInDim S128x16x1 ![0, 1] bcast_S128x16_S128x16x1_0_1 (Host.reduceAdd (mulf (res_main_v51 V0) (res_main_v51 V0)) (constant S_ .f32 0x00000000#32) reducesTo_S128x16x24_S128x16_d2 h_S_))) (broadcastInDim S128x16x1 ![] bcast_S_S128x16x1 (constant S_ .f32 0x2B8CBCCC#32))))))) (broadcastInDim S128x16x576x24 ![0, 1, 2, 3] bcast_S128x1x576x24_S128x16x576x24_0_1_2_3 (broadcastInDim S128x1x576x24 ![0, 2, 3] bcast_S128x576x24_S128x1x576x24_0_2_3 (Host.divf (res_main_v53 V0) (broadcastInDim S128x576x24 ![0, 1, 2] bcast_S128x576x1_S128x576x24_0_1_2 (maximumf (Host.sqrt (broadcastInDim S128x576x1 ![0, 1] bcast_S128x576_S128x576x1_0_1 (Host.reduceAdd (mulf (res_main_v53 V0) (res_main_v53 V0)) (constant S_ .f32 0x00000000#32) reducesTo_S128x576x24_S128x576_d2 h_S_))) (broadcastInDim S128x576x1 ![] bcast_S_S128x576x1 (constant S_ .f32 0x2B8CBCCC#32)))))))

set_option maxRecDepth 8192 in
/-- `main_v77`'s composed term of the arguments (named: it is used 3 times). -/
def res_main_v77 (V0 : Valuation τ sig (Elt F)) : (Proc.devRef .tc main_v77 : DevRef τ sig).ty.Contents (Elt F) :=
  addf (broadcastInDim S128x16x576 ![0, 1, 2] bcast_S1x1x1_S128x16x576_0_1_2 (broadcastInDim S1x1x1 ![2] bcast_S1_S1x1x1_2 (V0 (Proc.devRef .tc main_arg10)))) (mulf (broadcastInDim S128x16x576 ![0, 1, 2] bcast_S1x1x1_S128x16x576_0_1_2 (broadcastInDim S1x1x1 ![2] bcast_S1_S1x1x1_2 (V0 (Proc.devRef .tc main_arg9)))) (Host.exp (Host.negf (Host.sqrt (Host.reduceAdd (mulf (res_main_v68 V0) (res_main_v68 V0)) (constant S_ .f32 0x00000000#32) reducesTo_S128x16x576x24_S128x16x576_d3 h_S_)))))

set_option maxRecDepth 8192 in
/-- `main_v78`'s composed term of the arguments (named: it is used 3 times). -/
def res_main_v78 (V0 : Valuation τ sig (Elt F)) : (Proc.devRef .tc main_v78 : DevRef τ sig).ty.Contents (Elt F) :=
  select (cmpf .oge (res_main_v77 V0) (broadcastInDim S128x16x576 ![] bcast_S_S128x16x576 (constant S_ .f32 0x00000000#32))) (res_main_v77 V0) (mulf (broadcastInDim S128x16x576 ![] bcast_S_S128x16x576 (id (constant S_ .f32 0x3E4CCCCD#32))) (res_main_v77 V0))

set_option maxRecDepth 8192 in
/-- `main_call4_v0`'s composed term of the arguments (named: it is used 2 times). -/
def res_main_call4_v0 (V0 : Valuation τ sig (Elt F)) : (Proc.devRef .tc main_call4_v0 : DevRef τ sig).ty.Contents (Elt F) :=
  iotaInDim S128x16x576 32 1

set_option maxRecDepth 8192 in
/-- `main_call4_cst`'s composed term of the arguments (named: it is used 2 times). -/
def res_main_call4_cst (V0 : Valuation τ sig (Elt F)) : (Proc.devRef .tc main_call4_cst : DevRef τ sig).ty.Contents (Elt F) :=
  constant S_ .f32 0xFF800000#32

set_option maxRecDepth 8192 in
/-- `main_call4_c`'s composed term of the arguments (named: it is used 2 times). -/
def res_main_call4_c (V0 : Valuation τ sig (Elt F)) : (Proc.devRef .tc main_call4_c : DevRef τ sig).ty.Contents (Elt F) :=
  constantI S_ 32 0#32

set_option maxRecDepth 8192 in
/-- `main_v81`'s composed term of the arguments (named: it is used 2 times). -/
def res_main_v81 (V0 : Valuation τ sig (Elt F)) : (Proc.devRef .tc main_v81 : DevRef τ sig).ty.Contents (Elt F) :=
  transpose S128x16x576 [0, 2, 1] (uitofp .f32 (cmpi .eq (broadcastInDim S128x576x16 ![0, 1, 2] bcast_S128x576x1_S128x576x16_0_1_2 (broadcastInDim S128x576x1 ![0, 1] bcast_S128x576_S128x576x1_0_1 ((fun j => (Host.argReduce reducer_argmax_f32_i32 (res_main_v78 V0) (res_main_call4_v0 V0) (res_main_call4_cst V0) (res_main_call4_c V0) reducesTo_S128x16x576_S128x576_d1 h_S_ j).2)))) (broadcastInDim S128x576x16 ![0, 1, 2] bcast_S1x1x16_S128x576x16_0_1_2 (iotaInDim S1x1x16 32 2)))) transposes_S128x576x16_S128x16x576_0_2_1

set_option maxRecDepth 8192 in
/-- `main_v82`'s composed term of the arguments (named: it is used 2 times). -/
def res_main_v82 (V0 : Valuation τ sig (Elt F)) : (Proc.devRef .tc main_v82 : DevRef τ sig).ty.Contents (Elt F) :=
  mulf (res_main_v78 V0) (res_main_v81 V0)

set_option maxRecDepth 8192 in
/-- `main_v104`'s composed term of the arguments (named: it is used 4 times). -/
def res_main_v104 (V0 : Valuation τ sig (Elt F)) : (Proc.devRef .tc main_v104 : DevRef τ sig).ty.Contents (Elt F) :=
  addf (V0 (Proc.devRef .tc main_arg0)) (transpose S16x576x384 [0, 2, 1] (shapeCast _ (addf (transpose S16x384x24x24 [1, 0, 2, 3] (Host.dotGeneral dot_S384x192_S16x192x24x24_S384x16x24x24_1_1_0_023_n_n none (V0 (Proc.devRef .tc main_arg11)) (shapeCast _ (shapeCast _ (transpose S128x24x576 [0, 2, 1] (Host.dotGeneral dot_S128x16x576_S128x16x24_S128x576x24_1_1_2_2_0_0 none (res_main_v82 V0) (Host.divf (addf (Host.dotGeneral dot_S128x16x576_S128x576x24_S128x16x24_2_1_1_2_0_0 none (res_main_v82 V0) (transpose S128x576x24 [0, 2, 1] (shapeCast _ (res_main_v39 V0) shapeCasts_S128x24x24x24_S128x24x576) transposes_S128x24x576_S128x576x24_0_2_1)) (transpose S128x16x24 [0, 2, 1] (shapeCast _ (Host.divf (Host.reduceAdd (shapeCast _ (res_main_v39 V0) shapeCasts_S128x24x24x24_S128x24x4x6x4x6) (constant S_ .f32 0x00000000#32) reducesTo_S128x24x4x6x4x6_S128x24x4x4_d3_5 h_S_) (broadcastInDim S128x24x4x4 ![] bcast_S_S128x24x4x4 (constant S_ .f32 0x42100000#32))) shapeCasts_S128x24x4x4_S128x24x16) transposes_S128x24x16_S128x16x24_0_2_1)) (broadcastInDim S128x16x24 ![0, 1, 2] bcast_S128x16x1_S128x16x24_0_1_2 (addf (broadcastInDim S128x16x1 ![0, 1] bcast_S128x16_S128x16x1_0_1 (Host.reduceAdd (res_main_v81 V0) (constant S_ .f32 0x00000000#32) reducesTo_S128x16x576_S128x16_d2 h_S_)) (broadcastInDim S128x16x1 ![] bcast_S_S128x16x1 (constant S_ .f32 0x3F800000#32)))))) transposes_S128x576x24_S128x24x576_0_2_1) shapeCasts_S128x24x576_S128x24x24x24) shapeCasts_S128x24x24x24_S16x192x24x24)) transposes_S384x16x24x24_S16x384x24x24_1_0_2_3) (broadcastInDim S16x384x24x24 ![0, 1, 2, 3] bcast_S1x384x1x1_S16x384x24x24_0_1_2_3 (broadcastInDim S1x384x1x1 ![1] bcast_S384_S1x384x1x1_1 (V0 (Proc.devRef .tc main_arg12))))) shapeCasts_S16x384x24x24_S16x384x576) transposes_S16x384x576_S16x576x384_0_2_1)

set_option maxRecDepth 8192 in
/-- `main_v108`'s composed term of the arguments (named: it is used 2 times). -/
def res_main_v108 (V0 : Valuation τ sig (Elt F)) : (Proc.devRef .tc main_v108 : DevRef τ sig).ty.Contents (Elt F) :=
  Host.divf (broadcastInDim S16x576x1 ![0, 1] bcast_S16x576_S16x576x1_0_1 (Host.reduceAdd (res_main_v104 V0) (constant S_ .f32 0x00000000#32) reducesTo_S16x576x384_S16x576_d2 h_S_)) (broadcastInDim S16x576x1 ![] bcast_S_S16x576x1 (constant S_ .f32 0x43C00000#32))

set_option maxRecDepth 8192 in
/-- `main_v110`'s composed term of the arguments (named: it is used 2 times). -/
def res_main_v110 (V0 : Valuation τ sig (Elt F)) : (Proc.devRef .tc main_v110 : DevRef τ sig).ty.Contents (Elt F) :=
  subf (res_main_v104 V0) (broadcastInDim S16x576x384 ![0, 1, 2] bcast_S16x576x1_S16x576x384_0_1_2 (res_main_v108 V0))

set_option maxRecDepth 8192 in
/-- `main_v133`'s composed term of the arguments (named: it is used 2 times). -/
def res_main_v133 (V0 : Valuation τ sig (Elt F)) : (Proc.devRef .tc main_v133 : DevRef τ sig).ty.Contents (Elt F) :=
  addf (Host.dotGeneral dot_S16x576x384_S384x1536_S16x576x1536_2_0_01_1_n_n none (addf (mulf (Host.divf (subf (res_main_v104 V0) (broadcastInDim S16x576x384 ![0, 1, 2] bcast_S16x576x1_S16x576x384_0_1_2 (res_main_v108 V0))) (broadcastInDim S16x576x384 ![0, 1, 2] bcast_S16x576x1_S16x576x384_0_1_2 (Host.sqrt (addf (Host.divf (broadcastInDim S16x576x1 ![0, 1] bcast_S16x576_S16x576x1_0_1 (Host.reduceAdd (mulf (res_main_v110 V0) (res_main_v110 V0)) (constant S_ .f32 0x00000000#32) reducesTo_S16x576x384_S16x576_d2 h_S_)) (broadcastInDim S16x576x1 ![] bcast_S_S16x576x1 (constant S_ .f32 0x43C00000#32))) (broadcastInDim S16x576x1 ![] bcast_S_S16x576x1 (constant S_ .f32 0x3727C5AC#32)))))) (broadcastInDim S16x576x384 ![0, 1, 2] bcast_S1x1x384_S16x576x384_0_1_2 (broadcastInDim S1x1x384 ![2] bcast_S384_S1x1x384_2 (V0 (Proc.devRef .tc main_arg3))))) (broadcastInDim S16x576x384 ![0, 1, 2] bcast_S1x1x384_S16x576x384_0_1_2 (broadcastInDim S1x1x384 ![2] bcast_S384_S1x1x384_2 (V0 (Proc.devRef .tc main_arg4))))) (transpose S384x1536 [1, 0] (V0 (Proc.devRef .tc main_arg13)) transposes_S1536x384_S384x1536_1_0)) (broadcastInDim S16x576x1536 ![0, 1, 2] bcast_S1x1x1536_S16x576x1536_0_1_2 (broadcastInDim S1x1x1536 ![2] bcast_S1536_S1x1x1536_2 (V0 (Proc.devRef .tc main_arg14))))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl
theorem val0_main_arg16 (V0 : Valuation τ sig (Elt F)) : val0 V0 (no_index (Proc.devRef .tc main_arg16)) = V0 (Proc.devRef .tc main_arg16) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_cst, main_v0, main_v1, main_cst_0, main_v2, main_v3, main_v4, main_v5, main_v6, main_cst_1, main_v7, main_v8, main_cst_2, main_v9, main_v10, main_v11, main_v12, main_cst_3, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_cst_4, main_v41, main_cst_5, main_v42, main_v43, main_v44, main_cst_6, main_v45, main_cst_7, main_v46, main_v47, main_v48, main_v49, main_v50]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
theorem val1_main_arg14 (V0 : Valuation τ sig (Elt F)) : val1 V0 (no_index (Proc.devRef .tc main_arg14)) = V0 (Proc.devRef .tc main_arg14) :=
  (val1_keep V0 main_arg14 (by decide)).trans (val0_main_arg14 V0)
theorem val1_main_arg15 (V0 : Valuation τ sig (Elt F)) : val1 V0 (no_index (Proc.devRef .tc main_arg15)) = V0 (Proc.devRef .tc main_arg15) :=
  (val1_keep V0 main_arg15 (by decide)).trans (val0_main_arg15 V0)
theorem val1_main_arg16 (V0 : Valuation τ sig (Elt F)) : val1 V0 (no_index (Proc.devRef .tc main_arg16)) = V0 (Proc.devRef .tc main_arg16) :=
  (val1_keep V0 main_arg16 (by decide)).trans (val0_main_arg16 V0)
set_option maxRecDepth 8192 in
set_option maxHeartbeats 2000000 in
theorem val1_main_v37 (V0 : Valuation τ sig (Elt F)) : val1 V0 (no_index (Proc.devRef .tc main_v37)) = res_main_v37 V0 := by
  unfold val1
  simp only [ops_part0]
  after_results_simp
  simp only [val0_main_arg6, val0_main_arg2, val0_main_arg1, val0_main_arg0, val0_main_arg5] <;> rfl
set_option maxRecDepth 8192 in
set_option maxHeartbeats 2000000 in
theorem val1_main_v39 (V0 : Valuation τ sig (Elt F)) : val1 V0 (no_index (Proc.devRef .tc main_v39)) = res_main_v39 V0 := by
  unfold val1
  simp only [ops_part0]
  after_results_simp
  simp only [val0_main_arg8, val0_main_arg2, val0_main_arg1, val0_main_arg0, val0_main_arg7] <;> rfl
set_option maxRecDepth 8192 in
set_option maxHeartbeats 2000000 in
theorem val1_main_v49 (V0 : Valuation τ sig (Elt F)) : val1 V0 (no_index (Proc.devRef .tc main_v49)) = transpose S128x16x24 [0, 2, 1] (shapeCast _ (Host.divf (Host.reduceAdd (shapeCast _ (res_main_v39 V0) shapeCasts_S128x24x24x24_S128x24x4x6x4x6) (constant S_ .f32 0x00000000#32) reducesTo_S128x24x4x6x4x6_S128x24x4x4_d3_5 h_S_) (broadcastInDim S128x24x4x4 ![] bcast_S_S128x24x4x4 (constant S_ .f32 0x42100000#32))) shapeCasts_S128x24x4x4_S128x24x16) transposes_S128x24x16_S128x16x24_0_2_1 := by
  unfold val1
  simp only [ops_part0]
  after_results_simp
  simp only [val0_main_arg8, val0_main_arg2, val0_main_arg1, val0_main_arg0, val0_main_arg7] <;> rfl
set_option maxRecDepth 8192 in
set_option maxHeartbeats 2000000 in
theorem val1_main_v50 (V0 : Valuation τ sig (Elt F)) : val1 V0 (no_index (Proc.devRef .tc main_v50)) = shapeCast _ (Host.divf (Host.reduceAdd (shapeCast _ (res_main_v37 V0) shapeCasts_S128x24x24x24_S128x24x4x6x4x6) (constant S_ .f32 0x00000000#32) reducesTo_S128x24x4x6x4x6_S128x24x4x4_d3_5 h_S_) (broadcastInDim S128x24x4x4 ![] bcast_S_S128x24x4x4 (constant S_ .f32 0x42100000#32))) shapeCasts_S128x24x4x4_S128x24x16 := by
  unfold val1
  simp only [ops_part0]
  after_results_simp
  simp only [val0_main_arg6, val0_main_arg2, val0_main_arg1, val0_main_arg0, val0_main_arg5] <;> rfl

/-- The device's buffer contents after @main's first 90 operations. -/
def val1_1 (V0 : Valuation τ sig (Elt F)) : Valuation τ sig (Elt F) := after ops_part1_0 (val1 V0)
/-- The buffers that window `ops_part1_0`'s operations write. -/
abbrev ops_part1_0_W : List (Ref sig .tc) := [main_v51, main_v52, main_v53, main_call0_v0, main_call0_cst, main_call0_v1, main_call0_v2, main_v54, main_cst_8, main_v55, main_v56, main_v57, main_v58, main_call1_v0, main_call1_cst, main_call1_v1, main_call1_v2, main_v59, main_cst_9, main_v60, main_v61, main_v62, main_v63, main_v64, main_v65, main_v66, main_v67, main_v68, main_call2_v0, main_call2_cst]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
theorem val1_1_main_arg5 (V0 : Valuation τ sig (Elt F)) : val1_1 V0 (no_index (Proc.devRef .tc main_arg5)) = V0 (Proc.devRef .tc main_arg5) :=
  (val1_1_keep V0 main_arg5 (by decide)).trans (val1_main_arg5 V0)
theorem val1_1_main_arg6 (V0 : Valuation τ sig (Elt F)) : val1_1 V0 (no_index (Proc.devRef .tc main_arg6)) = V0 (Proc.devRef .tc main_arg6) :=
  (val1_1_keep V0 main_arg6 (by decide)).trans (val1_main_arg6 V0)
theorem val1_1_main_arg7 (V0 : Valuation τ sig (Elt F)) : val1_1 V0 (no_index (Proc.devRef .tc main_arg7)) = V0 (Proc.devRef .tc main_arg7) :=
  (val1_1_keep V0 main_arg7 (by decide)).trans (val1_main_arg7 V0)
theorem val1_1_main_arg8 (V0 : Valuation τ sig (Elt F)) : val1_1 V0 (no_index (Proc.devRef .tc main_arg8)) = V0 (Proc.devRef .tc main_arg8) :=
  (val1_1_keep V0 main_arg8 (by decide)).trans (val1_main_arg8 V0)
theorem val1_1_main_arg9 (V0 : Valuation τ sig (Elt F)) : val1_1 V0 (no_index (Proc.devRef .tc main_arg9)) = V0 (Proc.devRef .tc main_arg9) :=
  (val1_1_keep V0 main_arg9 (by decide)).trans (val1_main_arg9 V0)
theorem val1_1_main_arg10 (V0 : Valuation τ sig (Elt F)) : val1_1 V0 (no_index (Proc.devRef .tc main_arg10)) = V0 (Proc.devRef .tc main_arg10) :=
  (val1_1_keep V0 main_arg10 (by decide)).trans (val1_main_arg10 V0)
theorem val1_1_main_arg11 (V0 : Valuation τ sig (Elt F)) : val1_1 V0 (no_index (Proc.devRef .tc main_arg11)) = V0 (Proc.devRef .tc main_arg11) :=
  (val1_1_keep V0 main_arg11 (by decide)).trans (val1_main_arg11 V0)
theorem val1_1_main_arg12 (V0 : Valuation τ sig (Elt F)) : val1_1 V0 (no_index (Proc.devRef .tc main_arg12)) = V0 (Proc.devRef .tc main_arg12) :=
  (val1_1_keep V0 main_arg12 (by decide)).trans (val1_main_arg12 V0)
theorem val1_1_main_arg13 (V0 : Valuation τ sig (Elt F)) : val1_1 V0 (no_index (Proc.devRef .tc main_arg13)) = V0 (Proc.devRef .tc main_arg13) :=
  (val1_1_keep V0 main_arg13 (by decide)).trans (val1_main_arg13 V0)
theorem val1_1_main_arg14 (V0 : Valuation τ sig (Elt F)) : val1_1 V0 (no_index (Proc.devRef .tc main_arg14)) = V0 (Proc.devRef .tc main_arg14) :=
  (val1_1_keep V0 main_arg14 (by decide)).trans (val1_main_arg14 V0)
theorem val1_1_main_arg15 (V0 : Valuation τ sig (Elt F)) : val1_1 V0 (no_index (Proc.devRef .tc main_arg15)) = V0 (Proc.devRef .tc main_arg15) :=
  (val1_1_keep V0 main_arg15 (by decide)).trans (val1_main_arg15 V0)
theorem val1_1_main_arg16 (V0 : Valuation τ sig (Elt F)) : val1_1 V0 (no_index (Proc.devRef .tc main_arg16)) = V0 (Proc.devRef .tc main_arg16) :=
  (val1_1_keep V0 main_arg16 (by decide)).trans (val1_main_arg16 V0)
theorem val1_1_main_v39 (V0 : Valuation τ sig (Elt F)) : val1_1 V0 (no_index (Proc.devRef .tc main_v39)) = res_main_v39 V0 :=
  (val1_1_keep V0 main_v39 (by decide)).trans (val1_main_v39 V0)
theorem val1_1_main_v49 (V0 : Valuation τ sig (Elt F)) : val1_1 V0 (no_index (Proc.devRef .tc main_v49)) = transpose S128x16x24 [0, 2, 1] (shapeCast _ (Host.divf (Host.reduceAdd (shapeCast _ (res_main_v39 V0) shapeCasts_S128x24x24x24_S128x24x4x6x4x6) (constant S_ .f32 0x00000000#32) reducesTo_S128x24x4x6x4x6_S128x24x4x4_d3_5 h_S_) (broadcastInDim S128x24x4x4 ![] bcast_S_S128x24x4x4 (constant S_ .f32 0x42100000#32))) shapeCasts_S128x24x4x4_S128x24x16) transposes_S128x24x16_S128x16x24_0_2_1 :=
  (val1_1_keep V0 main_v49 (by decide)).trans (val1_main_v49 V0)
set_option maxRecDepth 8192 in
set_option maxHeartbeats 2000000 in
theorem val1_1_main_call2_v0 (V0 : Valuation τ sig (Elt F)) : val1_1 V0 (no_index (Proc.devRef .tc main_call2_v0)) = mulf (res_main_v68 V0) (res_main_v68 V0) := by
  unfold val1_1
  simp only [ops_part1_0, TRef.binary, TRef.nullary, TRef.unary, TRef.toBuf, TRef.ofBuf, cast_eq]
  after_results_simp
  simp only [val1_main_v37, val1_main_v50] <;> rfl
set_option maxRecDepth 8192 in
set_option maxHeartbeats 2000000 in
theorem val1_1_main_call2_cst (V0 : Valuation τ sig (Elt F)) : val1_1 V0 (no_index (Proc.devRef .tc main_call2_cst)) = constant S_ .f32 0x00000000#32 := by
  unfold val1_1
  simp only [ops_part1_0, TRef.binary, TRef.nullary, TRef.unary, TRef.toBuf, TRef.ofBuf, cast_eq]
  after_results_simp
  all_goals rfl

/-- The device's buffer contents after @main's first 120 operations. -/
def val1_2 (V0 : Valuation τ sig (Elt F)) : Valuation τ sig (Elt F) := after ops_part1_1 (val1_1 V0)
/-- The buffers that window `ops_part1_1`'s operations write. -/
abbrev ops_part1_1_W : List (Ref sig .tc) := [main_call2_v1, main_v69, main_v70, main_v71, main_v72, main_v73, main_v74, main_v75, main_v76, main_v77, main_cst_10, main_call3_cst, main_call3_v0, main_call3_v1, main_call3_v2, main_call3_v3, main_call3_v4, main_v78, main_call4_v0, main_call4_cst, main_call4_c, main_call4_v1_0, main_v79, main_call5_v0, main_call5_v1, main_call5_v2, main_call5_v3, main_call5_v4, main_v80, main_v81]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
theorem val1_2_main_arg5 (V0 : Valuation τ sig (Elt F)) : val1_2 V0 (no_index (Proc.devRef .tc main_arg5)) = V0 (Proc.devRef .tc main_arg5) :=
  (val1_2_keep V0 main_arg5 (by decide)).trans (val1_1_main_arg5 V0)
theorem val1_2_main_arg6 (V0 : Valuation τ sig (Elt F)) : val1_2 V0 (no_index (Proc.devRef .tc main_arg6)) = V0 (Proc.devRef .tc main_arg6) :=
  (val1_2_keep V0 main_arg6 (by decide)).trans (val1_1_main_arg6 V0)
theorem val1_2_main_arg7 (V0 : Valuation τ sig (Elt F)) : val1_2 V0 (no_index (Proc.devRef .tc main_arg7)) = V0 (Proc.devRef .tc main_arg7) :=
  (val1_2_keep V0 main_arg7 (by decide)).trans (val1_1_main_arg7 V0)
theorem val1_2_main_arg8 (V0 : Valuation τ sig (Elt F)) : val1_2 V0 (no_index (Proc.devRef .tc main_arg8)) = V0 (Proc.devRef .tc main_arg8) :=
  (val1_2_keep V0 main_arg8 (by decide)).trans (val1_1_main_arg8 V0)
theorem val1_2_main_arg9 (V0 : Valuation τ sig (Elt F)) : val1_2 V0 (no_index (Proc.devRef .tc main_arg9)) = V0 (Proc.devRef .tc main_arg9) :=
  (val1_2_keep V0 main_arg9 (by decide)).trans (val1_1_main_arg9 V0)
theorem val1_2_main_arg10 (V0 : Valuation τ sig (Elt F)) : val1_2 V0 (no_index (Proc.devRef .tc main_arg10)) = V0 (Proc.devRef .tc main_arg10) :=
  (val1_2_keep V0 main_arg10 (by decide)).trans (val1_1_main_arg10 V0)
theorem val1_2_main_arg11 (V0 : Valuation τ sig (Elt F)) : val1_2 V0 (no_index (Proc.devRef .tc main_arg11)) = V0 (Proc.devRef .tc main_arg11) :=
  (val1_2_keep V0 main_arg11 (by decide)).trans (val1_1_main_arg11 V0)
theorem val1_2_main_arg12 (V0 : Valuation τ sig (Elt F)) : val1_2 V0 (no_index (Proc.devRef .tc main_arg12)) = V0 (Proc.devRef .tc main_arg12) :=
  (val1_2_keep V0 main_arg12 (by decide)).trans (val1_1_main_arg12 V0)
theorem val1_2_main_arg13 (V0 : Valuation τ sig (Elt F)) : val1_2 V0 (no_index (Proc.devRef .tc main_arg13)) = V0 (Proc.devRef .tc main_arg13) :=
  (val1_2_keep V0 main_arg13 (by decide)).trans (val1_1_main_arg13 V0)
theorem val1_2_main_arg14 (V0 : Valuation τ sig (Elt F)) : val1_2 V0 (no_index (Proc.devRef .tc main_arg14)) = V0 (Proc.devRef .tc main_arg14) :=
  (val1_2_keep V0 main_arg14 (by decide)).trans (val1_1_main_arg14 V0)
theorem val1_2_main_arg15 (V0 : Valuation τ sig (Elt F)) : val1_2 V0 (no_index (Proc.devRef .tc main_arg15)) = V0 (Proc.devRef .tc main_arg15) :=
  (val1_2_keep V0 main_arg15 (by decide)).trans (val1_1_main_arg15 V0)
theorem val1_2_main_arg16 (V0 : Valuation τ sig (Elt F)) : val1_2 V0 (no_index (Proc.devRef .tc main_arg16)) = V0 (Proc.devRef .tc main_arg16) :=
  (val1_2_keep V0 main_arg16 (by decide)).trans (val1_1_main_arg16 V0)
theorem val1_2_main_v39 (V0 : Valuation τ sig (Elt F)) : val1_2 V0 (no_index (Proc.devRef .tc main_v39)) = res_main_v39 V0 :=
  (val1_2_keep V0 main_v39 (by decide)).trans (val1_1_main_v39 V0)
theorem val1_2_main_v49 (V0 : Valuation τ sig (Elt F)) : val1_2 V0 (no_index (Proc.devRef .tc main_v49)) = transpose S128x16x24 [0, 2, 1] (shapeCast _ (Host.divf (Host.reduceAdd (shapeCast _ (res_main_v39 V0) shapeCasts_S128x24x24x24_S128x24x4x6x4x6) (constant S_ .f32 0x00000000#32) reducesTo_S128x24x4x6x4x6_S128x24x4x4_d3_5 h_S_) (broadcastInDim S128x24x4x4 ![] bcast_S_S128x24x4x4 (constant S_ .f32 0x42100000#32))) shapeCasts_S128x24x4x4_S128x24x16) transposes_S128x24x16_S128x16x24_0_2_1 :=
  (val1_2_keep V0 main_v49 (by decide)).trans (val1_1_main_v49 V0)
set_option maxRecDepth 8192 in
set_option maxHeartbeats 2000000 in
theorem val1_2_main_v78 (V0 : Valuation τ sig (Elt F)) : val1_2 V0 (no_index (Proc.devRef .tc main_v78)) = res_main_v78 V0 := by
  unfold val1_2
  simp only [ops_part1_1, TRef.binary, TRef.nullary, TRef.quaternary, TRef.ternary, TRef.unary, TRef.toBuf, TRef.ofBuf, cast_eq]
  after_results_simp
  simp only [val1_1_main_call2_cst, val1_1_main_call2_v0, val1_1_main_arg9, val1_1_main_arg10] <;> rfl
set_option maxRecDepth 8192 in
set_option maxHeartbeats 2000000 in
theorem val1_2_main_v81 (V0 : Valuation τ sig (Elt F)) : val1_2 V0 (no_index (Proc.devRef .tc main_v81)) = res_main_v81 V0 := by
  unfold val1_2
  simp only [ops_part1_1, TRef.binary, TRef.nullary, TRef.quaternary, TRef.ternary, TRef.unary, TRef.toBuf, TRef.ofBuf, cast_eq]
  after_results_simp
  simp only [val1_1_main_call2_cst, val1_1_main_call2_v0, val1_1_main_arg9, val1_1_main_arg10] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v82, main_v83, main_v84, main_v85, main_v86, main_cst_11, main_v87, main_v88, main_cst_12, main_v89, main_v90, main_v91, main_v92, main_v93, main_v94, main_v95, main_v96, main_v97, main_v98, main_v99, main_v100, main_v101, main_v102, main_v103, main_v104, main_cst_13]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
theorem val2_main_arg4 (V0 : Valuation τ sig (Elt F)) : val2 V0 (no_index (Proc.devRef .tc main_arg4)) = V0 (Proc.devRef .tc main_arg4) :=
  (val2_keep V0 main_arg4 (by decide)).trans (val1_2_main_arg4 V0)
theorem val2_main_arg5 (V0 : Valuation τ sig (Elt F)) : val2 V0 (no_index (Proc.devRef .tc main_arg5)) = V0 (Proc.devRef .tc main_arg5) :=
  (val2_keep V0 main_arg5 (by decide)).trans (val1_2_main_arg5 V0)
theorem val2_main_arg6 (V0 : Valuation τ sig (Elt F)) : val2 V0 (no_index (Proc.devRef .tc main_arg6)) = V0 (Proc.devRef .tc main_arg6) :=
  (val2_keep V0 main_arg6 (by decide)).trans (val1_2_main_arg6 V0)
theorem val2_main_arg7 (V0 : Valuation τ sig (Elt F)) : val2 V0 (no_index (Proc.devRef .tc main_arg7)) = V0 (Proc.devRef .tc main_arg7) :=
  (val2_keep V0 main_arg7 (by decide)).trans (val1_2_main_arg7 V0)
theorem val2_main_arg8 (V0 : Valuation τ sig (Elt F)) : val2 V0 (no_index (Proc.devRef .tc main_arg8)) = V0 (Proc.devRef .tc main_arg8) :=
  (val2_keep V0 main_arg8 (by decide)).trans (val1_2_main_arg8 V0)
theorem val2_main_arg9 (V0 : Valuation τ sig (Elt F)) : val2 V0 (no_index (Proc.devRef .tc main_arg9)) = V0 (Proc.devRef .tc main_arg9) :=
  (val2_keep V0 main_arg9 (by decide)).trans (val1_2_main_arg9 V0)
theorem val2_main_arg10 (V0 : Valuation τ sig (Elt F)) : val2 V0 (no_index (Proc.devRef .tc main_arg10)) = V0 (Proc.devRef .tc main_arg10) :=
  (val2_keep V0 main_arg10 (by decide)).trans (val1_2_main_arg10 V0)
theorem val2_main_arg11 (V0 : Valuation τ sig (Elt F)) : val2 V0 (no_index (Proc.devRef .tc main_arg11)) = V0 (Proc.devRef .tc main_arg11) :=
  (val2_keep V0 main_arg11 (by decide)).trans (val1_2_main_arg11 V0)
theorem val2_main_arg12 (V0 : Valuation τ sig (Elt F)) : val2 V0 (no_index (Proc.devRef .tc main_arg12)) = V0 (Proc.devRef .tc main_arg12) :=
  (val2_keep V0 main_arg12 (by decide)).trans (val1_2_main_arg12 V0)
theorem val2_main_arg13 (V0 : Valuation τ sig (Elt F)) : val2 V0 (no_index (Proc.devRef .tc main_arg13)) = V0 (Proc.devRef .tc main_arg13) :=
  (val2_keep V0 main_arg13 (by decide)).trans (val1_2_main_arg13 V0)
theorem val2_main_arg14 (V0 : Valuation τ sig (Elt F)) : val2 V0 (no_index (Proc.devRef .tc main_arg14)) = V0 (Proc.devRef .tc main_arg14) :=
  (val2_keep V0 main_arg14 (by decide)).trans (val1_2_main_arg14 V0)
theorem val2_main_arg15 (V0 : Valuation τ sig (Elt F)) : val2 V0 (no_index (Proc.devRef .tc main_arg15)) = V0 (Proc.devRef .tc main_arg15) :=
  (val2_keep V0 main_arg15 (by decide)).trans (val1_2_main_arg15 V0)
theorem val2_main_arg16 (V0 : Valuation τ sig (Elt F)) : val2 V0 (no_index (Proc.devRef .tc main_arg16)) = V0 (Proc.devRef .tc main_arg16) :=
  (val2_keep V0 main_arg16 (by decide)).trans (val1_2_main_arg16 V0)
set_option maxRecDepth 8192 in
set_option maxHeartbeats 2000000 in
theorem val2_main_v104 (V0 : Valuation τ sig (Elt F)) : val2 V0 (no_index (Proc.devRef .tc main_v104)) = res_main_v104 V0 := by
  unfold val2
  simp only [ops_part1_2]
  after_results_simp
  simp only [val1_2_main_arg12, val1_2_main_v81, val1_2_main_v49, val1_2_main_v39, val1_2_main_v78, val1_2_main_arg11, val1_2_main_arg0] <;> rfl
set_option maxRecDepth 8192 in
set_option maxHeartbeats 2000000 in
theorem val2_main_cst_13 (V0 : Valuation τ sig (Elt F)) : val2 V0 (no_index (Proc.devRef .tc main_cst_13)) = constant S_ .f32 0x00000000#32 := by
  unfold val2
  simp only [ops_part1_2]
  after_results_simp
  all_goals rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v105, main_v106, main_cst_14, main_v107, main_v108, main_v109, main_v110, main_v111, main_cst_15, main_v112, main_v113, main_cst_16, main_v114, main_v115, main_v116, main_v117, main_cst_17, main_v118, main_v119, main_v120, main_v121, main_v122, main_v123, main_v124, main_v125, main_v126, main_v127, main_v128, main_v129, main_v130, main_v131, main_v132, main_v133, main_cst_18, main_v134, main_v135, main_v136, main_cst_19, main_v137, main_v138, main_v139, main_v140, main_v141, main_v142, main_v143, main_v144, main_v145, main_v146]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_arg16 (V0 : Valuation τ sig (Elt F)) : val3 V0 (no_index (Proc.devRef .tc main_arg16)) = V0 (Proc.devRef .tc main_arg16) :=
  (val3_keep V0 main_arg16 (by decide)).trans (val2_main_arg16 V0)
set_option maxRecDepth 8192 in
set_option maxHeartbeats 2000000 in
theorem val3_main_v146 (V0 : Valuation τ sig (Elt F)) : val3 V0 (no_index (Proc.devRef .tc main_v146)) = addf (res_main_v104 V0) (addf (Host.dotGeneral dot_S16x576x1536_S1536x384_S16x576x384_2_0_01_1_n_n none (mulf (mulf (broadcastInDim S16x576x1536 ![] bcast_S_S16x576x1536 (constant S_ .f32 0x3F000000#32)) (res_main_v133 V0)) (Host.erfc (mulf (Host.negf (res_main_v133 V0)) (broadcastInDim S16x576x1536 ![] bcast_S_S16x576x1536 (constant S_ .f32 0x3F3504F3#32))))) (transpose S1536x384 [1, 0] (V0 (Proc.devRef .tc main_arg15)) transposes_S384x1536_S1536x384_1_0)) (broadcastInDim S16x576x384 ![0, 1, 2] bcast_S1x1x384_S16x576x384_0_1_2 (broadcastInDim S1x1x384 ![2] bcast_S384_S1x1x384_2 (V0 (Proc.devRef .tc main_arg16))))) := by
  unfold val3
  simp only [ops_part2]
  after_results_simp
  simp only [val2_main_arg16, val2_main_arg15, val2_main_arg14, val2_main_arg13, val2_main_arg4, val2_main_arg3, val2_main_cst_13, val2_main_v104] <;> rfl

theorem after_ops (V0 : Valuation τ sig (Elt F)) : after ops V0 = val3 V0 := by
  simp only [ops, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v146) = addf (res_main_v104 (launchContents m c)) (addf (Host.dotGeneral dot_S16x576x1536_S1536x384_S16x576x384_2_0_01_1_n_n none (mulf (mulf (broadcastInDim S16x576x1536 ![] bcast_S_S16x576x1536 (constant S_ .f32 0x3F000000#32)) (res_main_v133 (launchContents m c))) (Host.erfc (mulf (Host.negf (res_main_v133 (launchContents m c))) (broadcastInDim S16x576x1536 ![] bcast_S_S16x576x1536 (constant S_ .f32 0x3F3504F3#32))))) (transpose S1536x384 [1, 0] ((launchContents m c) (Proc.devRef .tc main_arg15)) transposes_S384x1536_S1536x384_1_0)) (broadcastInDim S16x576x384 ![0, 1, 2] bcast_S1x1x384_S16x576x384_0_1_2 (broadcastInDim S1x1x384 ![2] bcast_S384_S1x1x384_2 ((launchContents m c) (Proc.devRef .tc main_arg16)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v146).trans ((congrFun (after_ops (launchContents m c)) (Proc.devRef .tc main_v146)).trans (val3_main_v146 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c))),
      (h c main_arg3).trans ((congrFun (after_ops (launchContents m c)) (Proc.devRef .tc main_arg3)).trans (val3_main_arg3 (launchContents m c))),
      (h c main_arg4).trans ((congrFun (after_ops (launchContents m c)) (Proc.devRef .tc main_arg4)).trans (val3_main_arg4 (launchContents m c))),
      (h c main_arg5).trans ((congrFun (after_ops (launchContents m c)) (Proc.devRef .tc main_arg5)).trans (val3_main_arg5 (launchContents m c))),
      (h c main_arg6).trans ((congrFun (after_ops (launchContents m c)) (Proc.devRef .tc main_arg6)).trans (val3_main_arg6 (launchContents m c))),
      (h c main_arg7).trans ((congrFun (after_ops (launchContents m c)) (Proc.devRef .tc main_arg7)).trans (val3_main_arg7 (launchContents m c))),
      (h c main_arg8).trans ((congrFun (after_ops (launchContents m c)) (Proc.devRef .tc main_arg8)).trans (val3_main_arg8 (launchContents m c))),
      (h c main_arg9).trans ((congrFun (after_ops (launchContents m c)) (Proc.devRef .tc main_arg9)).trans (val3_main_arg9 (launchContents m c))),
      (h c main_arg10).trans ((congrFun (after_ops (launchContents m c)) (Proc.devRef .tc main_arg10)).trans (val3_main_arg10 (launchContents m c))),
      (h c main_arg11).trans ((congrFun (after_ops (launchContents m c)) (Proc.devRef .tc main_arg11)).trans (val3_main_arg11 (launchContents m c))),
      (h c main_arg12).trans ((congrFun (after_ops (launchContents m c)) (Proc.devRef .tc main_arg12)).trans (val3_main_arg12 (launchContents m c))),
      (h c main_arg13).trans ((congrFun (after_ops (launchContents m c)) (Proc.devRef .tc main_arg13)).trans (val3_main_arg13 (launchContents m c))),
      (h c main_arg14).trans ((congrFun (after_ops (launchContents m c)) (Proc.devRef .tc main_arg14)).trans (val3_main_arg14 (launchContents m c))),
      (h c main_arg15).trans ((congrFun (after_ops (launchContents m c)) (Proc.devRef .tc main_arg15)).trans (val3_main_arg15 (launchContents m c))),
      (h c main_arg16).trans ((congrFun (after_ops (launchContents m c)) (Proc.devRef .tc main_arg16)).trans (val3_main_arg16 (launchContents m c)))⟩)
    (run_seq scopedRefs_eq scopedSems_eq defs main (fun _ => ops) main_eq (fun _ => ops_sub) m ρ fun _ => ops_fresh)

end Cert.ReferenceIdeal.Value

end
-- ==== Proof.PatchSum.lean ====
/- The reference's sum over the 6 × 6 patches of a 24 × 24 grid. -/
module

public import proofs.«01_k».proof.Proof.Gen.ReferenceIdeal
public import Idealize.ShloMosaic.Lib.Pointwise

@[expose] public section

set_option maxRecDepth 16384

noncomputable section

namespace Cert.ReferenceIdeal.Read

open Cert.ReferenceIdeal Cert.ReferenceIdeal.Gen Idealize.ShloMosaic

/-- Coordinate `a` within the `i`-th stretch of six of the 24. -/
def six (i : Fin 4) (a : Fin 6) : Fin 24 := ⟨i.val * 6 + a.val, by omega⟩

/-- The grid cut into patches, read at a patch and a position in it. -/
theorem cut_apply (z : FVec Ideal S128x24x24x24 .f32) (r : Fin 128) (d : Fin 24) (i : Fin 4) (a : Fin 6) (j : Fin 4) (b : Fin 6) :
    shapeCast S128x24x4x6x4x6 z shapeCasts_S128x24x24x24_S128x24x4x6x4x6 (ix6 r d i a j b) = z (ix4 r d (six i a) (six j b)) := by
  refine shapeCast_apply z _ _ _ ?_
  rw [Shape.rowMajor_val_four, Shape.rowMajor_val_six]
  show ((r.val * 24 + d.val) * 24 + (i.val * 6 + a.val)) * 24 + (j.val * 6 + b.val)
    = ((((r.val * 24 + d.val) * 4 + i.val) * 6 + a.val) * 4 + j.val) * 6 + b.val
  omega

/-- The sum over a patch. -/
theorem patch_sum (z : FVec Ideal S128x24x24x24 .f32) (r : Fin 128) (d : Fin 24) (i j : Fin 4) :
    Ideal.hostReduceAdd reducesTo_S128x24x4x6x4x6_S128x24x4x4_d3_5
      (shapeCast S128x24x4x6x4x6 z shapeCasts_S128x24x24x24_S128x24x4x6x4x6) 0 (ix4 r d i j)
      = ∑ a : Fin 6, ∑ b : Fin 6, z (ix4 r d (six i a) (six j b)) := by
  show 0 + ∑ y ∈ Finset.univ.filter (fun y => reducesTo_S128x24x4x6x4x6_S128x24x4x4_d3_5.drop y = ix4 r d i j), _ = _
  rw [zero_add, Finset.sum_filter_eq_sum_of_fiber _ (fun p : Fin 6 × Fin 6 => ix6 r d i p.1 j p.2)]
  · simp only [cut_apply]
    exact Finset.sum_product' _ _ (fun a b => z (ix4 r d (six i a) (six j b)))
  · rintro ⟨a, b⟩ ⟨a', b'⟩ e
    exact Prod.ext (congrFun e 3) (congrFun e 5)
  · intro y
    constructor
    · intro e
      refine ⟨(y 3, y 5), ?_⟩
      funext a; apply Fin.ext
      match a with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => rfl
      | ⟨4, _⟩ => exact (congrArg Fin.val (congrFun e 3)).symm
      | ⟨5, _⟩ => rfl
    · rintro ⟨⟨a, b⟩, rfl⟩
      funext e; apply Fin.ext
      match e with
      | ⟨0, _⟩ => rfl
      | ⟨1, _⟩ => rfl
      | ⟨2, _⟩ => rfl
      | ⟨3, _⟩ => rfl

end Cert.ReferenceIdeal.Read

end
-- ==== Proof.RefFeat.lean ====
/- The reference's features, values and centres are the layer's. -/
module

public import proofs.«01_k».proof.Proof.RefRun
public import proofs.«01_k».proof.Proof.Args
public import proofs.«01_k».proof.Proof.PatchSum
public import proofs.«01_k».proof.Proof.Sums
public import proofs.«01_k».proof.Proof.Scalar

@[expose] public section

set_option maxRecDepth 16384

noncomputable section

namespace Cert.ReferenceIdeal.Read

open Cert.ReferenceIdeal Cert.ReferenceIdeal.Gen Cert.ReferenceIdeal.Value Idealize.ShloMosaic Cert.Cluster

variable (V0 : Valuation τ sig (Elt Ideal))

/-- The layer's parameters in the arguments. -/
def par : Par := parOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))

/-- Image `b` of the batch. -/
def img (b : Fin 16) : Fin 576 → Fin 384 → EReal := imgOf (V0 (Proc.devRef .tc main_arg0)) b

/-- The row of image `b` and head `h` in the 128 = 16 × 8 rows. -/
def bh (b : Fin 16) (h : Fin 8) : Fin 128 := ⟨b.val * 8 + h.val, by omega⟩

/-- The position at row `p`, column `q` of the grid. -/
def pos (p q : Fin 24) : Fin 576 := ⟨p.val * 24 + q.val, by omega⟩

/-- The rows' means. -/
theorem v3_apply (b : Fin 16) (n : Fin 576) : res_main_v3 V0 (ix3 b n 0) = mean (img V0 b n) := by
  unfold res_main_v3
  pointwise
  rfl

/-- The centred rows. -/
theorem v5_apply (b : Fin 16) (n : Fin 576) (k : Fin 384) :
    res_main_v5 V0 (ix3 b n k) = img V0 b n k - mean (img V0 b n) := by
  unfold res_main_v5
  pointwise
  rw [v3_apply]
  rfl

/-- The normalised rows. -/
theorem v25_apply (b : Fin 16) (c : Fin 384) (p q : Fin 24) :
    res_main_v25 V0 (ix4 b c p q) = ln (img V0 b (pos p q)) (par V0).g1 (par V0).e1 c := by
  unfold res_main_v25
  pointwise
  simp only [v3_apply, v5_apply]
  rfl

/-- The channel of a head's entry, from the joint index of image and head. -/
theorem ch_bh (b : Fin 16) (h : Fin 8) (d : Fin 24) (p : (bh b h).val % 8 * 24 + d.val < 192) :
    (⟨(bh b h).val % 8 * 24 + d.val, p⟩ : Fin 192) = ch h d := Fin.ext (by simp only [bh, ch]; omega)

/-- The image, from that joint index. -/
theorem im_bh (b : Fin 16) (h : Fin 8) (p : (bh b h).val / 8 < 16) : (⟨(bh b h).val / 8, p⟩ : Fin 16) = b :=
  Fin.ext (by simp only [bh]; omega)

/-- The features on the grid. -/
theorem v37_apply (b : Fin 16) (h : Fin 8) (d p q : Fin 24) :
    res_main_v37 V0 (ix4 (bh b h) d p q) = feat (par V0) (img V0 b) (pos p q) (ch h d) := by
  unfold res_main_v37
  pointwise
  simp only [ch_bh, im_bh, v25_apply]
  unfold feat proj
  refine congrArg₂ (· + ·) (Finset.sum_congr rfl fun k _ => mul_comm _ _) rfl

/-- The values on the grid. -/
theorem v39_apply (b : Fin 16) (h : Fin 8) (d p q : Fin 24) :
    res_main_v39 V0 (ix4 (bh b h) d p q) = vals (par V0) (img V0 b) (pos p q) (ch h d) := by
  unfold res_main_v39
  pointwise
  simp only [ch_bh, im_bh, v25_apply]
  unfold vals proj
  refine congrArg₂ (· + ·) (Finset.sum_congr rfl fun k _ => mul_comm _ _) rfl

/-- A token from its row and column. -/
theorem pos_eq (n : Fin 576) (p : n.val / 24 < 24) (q : n.val % 24 < 24) : pos ⟨n.val / 24, p⟩ ⟨n.val % 24, q⟩ = n :=
  Fin.ext (by simp only [pos]; omega)

/-- The features in a row of positions. -/
theorem v53_apply (b : Fin 16) (h : Fin 8) (n : Fin 576) (d : Fin 24) :
    res_main_v53 V0 (ix3 (bh b h) n d) = fvec (par V0) (img V0 b) h n d := by
  unfold res_main_v53
  pointwise
  rw [v37_apply, pos_eq]
  rfl

/-- A token of a patch from its place in the patch. -/
theorem pos_six (m : Fin 16) (a b : Fin 6) (p : m.val / 4 < 4) (q : m.val % 4 < 4) :
    pos (six ⟨m.val / 4, p⟩ a) (six ⟨m.val % 4, q⟩ b) = pix m a b := rfl

/-- The centres. -/
theorem v51_apply (b : Fin 16) (h : Fin 8) (m : Fin 16) (d : Fin 24) :
    res_main_v51 V0 (ix3 (bh b h) m d) = cvec (par V0) (img V0 b) h m d := by
  unfold res_main_v51
  pointwise
  rw [patch_sum]
  simp only [v37_apply, pos_six]
  rfl

end Cert.ReferenceIdeal.Read

end
-- ==== Proof.PreRead.lean ====
/- What the precondition says of the layer: no feature vector and no centre of any image is degenerate. -/
module

public import proofs.«01_k».proof.Pre_features_nondegenerate
public import proofs.«01_k».proof.Proof.RefFeat

@[expose] public section

set_option maxRecDepth 16384

noncomputable section

namespace Cert.Pre_features_nondegenerate

open Idealize.ShloMosaic

/-- The precondition's side conditions. -/
theorem facts : Facts := by constructor <;> decide

end Cert.Pre_features_nondegenerate

namespace Cert.ReferenceIdeal.Read

open Cert.ReferenceIdeal Cert.ReferenceIdeal.Gen Cert.ReferenceIdeal.Value Idealize.ShloMosaic Cert.Cluster

attribute [local instance] Cert.Pre_features_nondegenerate.facts

variable (V0 : Valuation τ sig (Elt Ideal))

/-- The precondition computes the reference's features and centres. -/
theorem fn_eq : Cert.Pre_features_nondegenerate.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))
    = Cert.Pre_features_nondegenerate.fn_part2 (F := Ideal) (res_main_v51 V0) (res_main_v53 V0) := by
  unfold Cert.Pre_features_nondegenerate.fn Cert.Pre_features_nondegenerate.fn_part1
  unfold res_main_v51 res_main_v53 res_main_v37 res_main_v25 res_main_v5 res_main_v3
  rfl

/-- Its first result: every feature vector is long enough and finite. -/
theorem part_fst (u : FVec Ideal S128x16x24 .f32) (v : FVec Ideal S128x576x24 .f32) (r : Fin 128) (n : Fin 576)
    (h : (Cert.Pre_features_nondegenerate.fn_part2 (F := Ideal) u v).1 (ix2 r n) = 1#1) :
    lit 0x179ABE15#32 ≤ Cluster.sq (fun d => v (ix3 r n d)) ∧ Cluster.sq (fun d => v (ix3 r n d)) < lit 0x7F800000#32 := by
  unfold Cert.Pre_features_nondegenerate.fn_part2 at h
  revert h
  pointwise
  intro h
  have and_bits : ∀ p q : Bool, IntOp.andi (BitVec.ofBool p) (BitVec.ofBool q) = 1#1 → p = true ∧ q = true := by decide
  obtain ⟨e, f⟩ := and_bits _ _ h
  exact ⟨of_decide_eq_true e, of_decide_eq_true f⟩

/-- Its second result: every centre is long enough. -/
theorem part_snd (u : FVec Ideal S128x16x24 .f32) (v : FVec Ideal S128x576x24 .f32) (r : Fin 128) (m : Fin 16)
    (h : (Cert.Pre_features_nondegenerate.fn_part2 (F := Ideal) u v).2 (ix2 r m) = 1#1) :
    lit 0x179ABE15#32 ≤ Cluster.sq (fun d => u (ix3 r m d)) := by
  unfold Cert.Pre_features_nondegenerate.fn_part2 at h
  revert h
  pointwise
  intro h
  have bit : ∀ p : Bool, BitVec.ofBool p = 1#1 → p = true := by decide
  exact of_decide_eq_true (bit _ h)

/-- The precondition, read. -/
theorem good_of_pre (h1 : (Cert.Pre_features_nondegenerate.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))).1 = fun _ => 1#1)
    (h2 : (Cert.Pre_features_nondegenerate.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))).2 = fun _ => 1#1)
    (b : Fin 16) : Good (par V0) (img V0 b) := by
  rw [fn_eq] at h1 h2
  refine ⟨fun h n => ?_, fun h m => ?_⟩
  · have e := part_fst _ _ (bh b h) n (congrFun h1 _)
    simp only [v53_apply, lit_top] at e
    exact e
  · have e := part_snd _ _ (bh b h) m (congrFun h2 _)
    simp only [v51_apply] at e
    exact e

/-- The same of any arrays that a valuation holds. -/
theorem good_of_args (a0 : FVec Ideal S16x576x384 .f32) (a1 : FVec Ideal S384 .f32) (a2 : FVec Ideal S384 .f32) (a3 : FVec Ideal
    S384 .f32) (a4 : FVec Ideal S384 .f32) (a5 : FVec Ideal S192x384 .f32) (a6 : FVec Ideal S192 .f32) (a7 :
    FVec Ideal S192x384 .f32) (a8 : FVec Ideal S192 .f32) (a9 : FVec Ideal S1 .f32) (a10 : FVec Ideal S1 .f32)
    (a11 : FVec Ideal S384x192 .f32) (a12 : FVec Ideal S384 .f32) (a13 : FVec Ideal S1536x384 .f32) (a14 : FVec
    Ideal S1536 .f32) (a15 : FVec Ideal S384x1536 .f32) (a16 : FVec Ideal S384 .f32)
    (e0 : V0 (Proc.devRef .tc main_arg0) = a0) (e1 : V0 (Proc.devRef .tc main_arg1) = a1) (e2 : V0 (Proc.devRef
    .tc main_arg2) = a2) (e3 : V0 (Proc.devRef .tc main_arg3) = a3) (e4 : V0 (Proc.devRef .tc main_arg4) = a4)
    (e5 : V0 (Proc.devRef .tc main_arg5) = a5) (e6 : V0 (Proc.devRef .tc main_arg6) = a6) (e7 : V0 (Proc.devRef
    .tc main_arg7) = a7) (e8 : V0 (Proc.devRef .tc main_arg8) = a8) (e9 : V0 (Proc.devRef .tc main_arg9) = a9)
    (e10 : V0 (Proc.devRef .tc main_arg10) = a10) (e11 : V0 (Proc.devRef .tc main_arg11) = a11) (e12 : V0
    (Proc.devRef .tc main_arg12) = a12) (e13 : V0 (Proc.devRef .tc main_arg13) = a13) (e14 : V0 (Proc.devRef .tc
    main_arg14) = a14) (e15 : V0 (Proc.devRef .tc main_arg15) = a15) (e16 : V0 (Proc.devRef .tc main_arg16) =
    a16)
    (h1 : (Cert.Pre_features_nondegenerate.fn (F := Ideal) a0 a1 a2 a3 a4 a5 a6 a7 a8 a9 a10 a11 a12 a13 a14 a15 a16).1 = fun _ => 1#1)
    (h2 : (Cert.Pre_features_nondegenerate.fn (F := Ideal) a0 a1 a2 a3 a4 a5 a6 a7 a8 a9 a10 a11 a12 a13 a14 a15 a16).2 = fun _ => 1#1)
    (b : Fin 16) : Good (parOf a1 a2 a3 a4 a5 a6 a7 a8 a9 a10 a11 a12 a13 a14 a15 a16) (imgOf a0 b) := by
  subst e0 e1 e2 e3 e4 e5 e6 e7 e8 e9 e10 e11 e12 e13 e14 e15 e16
  exact good_of_pre V0 h1 h2 b

end Cert.ReferenceIdeal.Read

end
-- ==== Proof.ArgMax.lean ====
/- The reference's index of the largest score: the first of the clusters that hold it. -/
module

public import proofs.«01_k».proof.Proof.Gen.ReferenceIdeal
public import Idealize.ShloMosaic.Lib.Pointwise
public import proofs.«01_k».proof.Proof.Scalar
public import proofs.«01_k».proof.Proof.First

@[expose] public section

set_option maxRecDepth 16384

noncomputable section

namespace Cert.ReferenceIdeal.Read

open Cert.ReferenceIdeal Cert.ReferenceIdeal.Gen Idealize.ShloMosaic Cert.Cluster

/-- One step of the search keeps the larger value, and of two equal ones the smaller index. -/
theorem step_eq (a b : EReal × BitVec 32) : reducer_argmax_f32_i32 (F := Ideal) a b
    = if b.1 < a.1 ∨ (a.1 = b.1 ∧ a.2.toInt < b.2.toInt) then a else b := by
  obtain ⟨a1, a2⟩ := a
  obtain ⟨b1, b2⟩ := b
  simp only [reducer_argmax_f32_i32, Ideal.cmpf_def, Ideal.cmp, IntOp.cmpi, IntOp.ori, IntOp.andi, Scalar.select]
  by_cases h1 : b1 < a1
  · simp [h1, h1.ne']
  · by_cases h2 : a1 = b1
    · subst h2
      by_cases h3 : a2.toInt < b2.toInt
      · simp [h3, BitVec.slt]
      · simp [h3, BitVec.slt]
    · simp [h1, h2]

/-- What the search over a list ends at: one of the pairs, none of which is before it. -/
theorem fold_spec (l : List (EReal × BitVec 32)) : ∀ a : EReal × BitVec 32,
    let r := l.foldl (reducer_argmax_f32_i32 (F := Ideal)) a
    (r = a ∨ r ∈ l) ∧ (∀ p, p = a ∨ p ∈ l → p.1 ≤ r.1 ∧ (p.1 = r.1 → r.2.toInt ≤ p.2.toInt)) := by
  induction l with
  | nil =>
    intro a
    simp
  | cons b l ih =>
    intro a
    have h := ih (reducer_argmax_f32_i32 (F := Ideal) a b)
    simp only [List.foldl_cons]
    obtain ⟨h1, h2⟩ := h
    have hs := step_eq a b
    have ha : ∀ p, p = a ∨ p = b → p.1 ≤ (reducer_argmax_f32_i32 (F := Ideal) a b).1 ∧
        (p.1 = (reducer_argmax_f32_i32 (F := Ideal) a b).1 → (reducer_argmax_f32_i32 (F := Ideal) a b).2.toInt ≤ p.2.toInt) := by
      rw [hs]
      intro p hp
      split_ifs with hc
      · rcases hp with rfl | rfl
        · exact ⟨le_refl _, fun _ => le_refl _⟩
        · rcases hc with hc | ⟨hc, hd⟩
          · exact ⟨hc.le, fun e => absurd e hc.ne⟩
          · exact ⟨hc.ge, fun _ => hd.le⟩
      · rcases hp with rfl | rfl
        · push Not at hc
          exact ⟨hc.1, hc.2⟩
        · exact ⟨le_refl _, fun _ => le_refl _⟩
    refine ⟨?_, ?_⟩
    · rcases h1 with h1 | h1
      · rw [h1, hs]
        split_ifs
        · exact Or.inl rfl
        · exact Or.inr (by simp)
      · exact Or.inr (List.mem_cons_of_mem _ h1)
    · intro p hp
      rw [List.mem_cons, ← or_assoc] at hp
      rcases hp with hp | hp
      · have hq := h2 _ (Or.inl rfl)
        have hp := ha p hp
        refine ⟨hp.1.trans hq.1, fun e => ?_⟩
        have e' : p.1 = (reducer_argmax_f32_i32 (F := Ideal) a b).1 := le_antisymm hp.1 (e ▸ hq.1)
        exact (hq.2 (e' ▸ e)).trans (hp.2 e')
      · exact h2 p (Or.inr hp)

/-- The pairs of one position are the sixteen scores with their clusters. -/
theorem mem_fiber (x : FVec Ideal S128x16x576 .f32) (y : IVec S128x16x576 32) (r : Fin 128) (n : Fin 576) (p : EReal × BitVec 32) :
    p ∈ Host.argReduceFiber x y reducesTo_S128x16x576_S128x576_d1 (ix2 r n) ↔ ∃ m : Fin 16, p = (x (ix3 r m n), y (ix3 r m n)) := by
  unfold Host.argReduceFiber
  simp only [List.mem_map, List.mem_filter, List.mem_finRange, true_and, decide_eq_true_eq]
  constructor
  · rintro ⟨k, hk, rfl⟩
    obtain ⟨m, hm⟩ := (Shape.ReducesTo.fiber_r3_a1 reducesTo_S128x16x576_S128x576_d1 (ix2 r n) _).1 hk
    exact ⟨m, by rw [← hm]; rfl⟩
  · rintro ⟨m, rfl⟩
    refine ⟨S128x16x576.rowMajor (ix3 r m n), ?_, by rw [Equiv.symm_apply_apply]⟩
    rw [Equiv.symm_apply_apply]
    exact (Shape.ReducesTo.fiber_r3_a1 reducesTo_S128x16x576_S128x576_d1 (ix2 r n) _).2 ⟨m, rfl⟩

/-- The index found is the winner's. -/
theorem arg_apply (x : FVec Ideal S128x16x576 .f32) (r : Fin 128) (n : Fin 576) (k : Fin 16) (hk : Wins (fun m => x (ix3 r m n)) k) :
    (Host.argReduce (F := Ideal) reducer_argmax_f32_i32 x (iotaInDim S128x16x576 32 1) (constant S_ .f32 0xFF800000#32 : FVec Ideal S_ .f32)
      (constantI S_ 32 0#32) reducesTo_S128x16x576_S128x576_d1 h_S_ (ix2 r n)).2 = BitVec.ofNat 32 k.val := by
  rw [Ideal.argReduce_eq_reduce2, Host.reduce2_eq_foldl_fiber]
  have h := fold_spec (Host.argReduceFiber x (iotaInDim S128x16x576 32 1) reducesTo_S128x16x576_S128x576_d1 (ix2 r n))
    (lit 0xFF800000#32, 0#32)
  obtain ⟨h1, h2⟩ := h
  refine Eq.trans (b := (List.foldl (reducer_argmax_f32_i32 (F := Ideal)) (lit 0xFF800000#32, 0#32)
    (Host.argReduceFiber x (iotaInDim S128x16x576 32 1) reducesTo_S128x16x576_S128x576_d1 (ix2 r n))).2) rfl ?_
  generalize List.foldl (reducer_argmax_f32_i32 (F := Ideal)) (lit 0xFF800000#32, 0#32)
    (Host.argReduceFiber x (iotaInDim S128x16x576 32 1) reducesTo_S128x16x576_S128x576_d1 (ix2 r n)) = q at h1 h2 ⊢
  have hm : ∀ m : Fin 16, x (ix3 r m n) ≤ q.1 ∧ (x (ix3 r m n) = q.1 → q.2.toInt ≤ (BitVec.ofNat 32 m.val).toInt) :=
    fun m => h2 (x (ix3 r m n), BitVec.ofNat 32 m.val) (Or.inr ((mem_fiber x _ r n _).2 ⟨m, rfl⟩))
  have hN : ∀ x : Fin 16, (BitVec.ofNat 32 x.val).toInt = (x.val : ℤ) := by decide
  have hj : ∀ j : Fin 16, q.1 = x (ix3 r j n) → q.2 = BitVec.ofNat 32 j.val → q.2 = BitVec.ofNat 32 k.val := by
    intro j e1 e2
    have hw : Wins (fun m => x (ix3 r m n)) j := by
      refine ⟨fun i => (hm i).1.trans_eq e1, fun i hi => lt_of_le_of_ne ((hm i).1.trans_eq e1) fun e => ?_⟩
      have := (hm i).2 (e.trans e1.symm)
      rw [e2, hN, hN] at this
      rw [Fin.lt_def] at hi
      omega
    rw [e2, wins_unique hw hk]
  rcases h1 with h1 | h1
  · subst h1
    refine hj 0 ?_ rfl
    have := (hm 0).1
    rw [lit_bot] at this ⊢
    exact (le_bot_iff.1 this).symm
  · obtain ⟨j, e⟩ := (mem_fiber x _ r n _).1 h1
    exact hj j (congrArg Prod.fst e) (congrArg Prod.snd e)

end Cert.ReferenceIdeal.Read

end
-- ==== Proof.RefScore.lean ====
/- The reference's scores and choices are the layer's. -/
module

public import proofs.«01_k».proof.Proof.RefFeat
public import proofs.«01_k».proof.Proof.ArgMax

@[expose] public section

set_option maxRecDepth 16384

noncomputable section

namespace Cert.ReferenceIdeal.Read

open Cert.ReferenceIdeal Cert.ReferenceIdeal.Gen Cert.ReferenceIdeal.Value Idealize.ShloMosaic Cert.Cluster

variable (V0 : Valuation τ sig (Elt Ideal))

/-- The difference of the unit vectors. -/
theorem v68_apply (b : Fin 16) (h : Fin 8) (m : Fin 16) (n : Fin 576) (d : Fin 24) :
    res_main_v68 V0 (ix4 (bh b h) m n d)
      = unit (cvec (par V0) (img V0 b) h m) d - unit (fvec (par V0) (img V0 b) h n) d := by
  unfold res_main_v68
  pointwise
  simp only [v51_apply, v53_apply]
  rfl

/-- The scores before the rectifier. -/
theorem v77_apply (b : Fin 16) (h : Fin 8) (m : Fin 16) (n : Fin 576) :
    res_main_v77 V0 (ix3 (bh b h) m n) = (par V0).sb + (par V0).sa *
      Ideal.exp (-(dist (unit (cvec (par V0) (img V0 b) h m)) (unit (fvec (par V0) (img V0 b) h n)))) := by
  unfold res_main_v77
  pointwise
  simp only [v68_apply]
  rfl

/-- The scores. -/
theorem v78_apply (b : Fin 16) (h : Fin 8) (m : Fin 16) (n : Fin 576) :
    res_main_v78 V0 (ix3 (bh b h) m n) = scores (par V0) (img V0 b) h n m := by
  unfold res_main_v78
  pointwise
  simp only [v77_apply]
  rfl

/-- A test of two clusters, as a number. -/
theorem test_apply (m k : Fin 16) : (FloatOps.uitofp FTy.f32 (IntOp.cmpi CmpIPredicate.eq (BitVec.ofNat 32 k.val) (BitVec.ofNat 32 m.val)) : Ideal .f32)
    = if m.val = k.val then (1 : EReal) else 0 := by
  have hN : ∀ x y : Fin 16, (BitVec.ofNat 32 x.val == BitVec.ofNat 32 y.val) = decide (y.val = x.val) := by decide
  show (((BitVec.ofBool (BitVec.ofNat 32 k.val == BitVec.ofNat 32 m.val)).toNat : ℝ) : EReal) = _
  rw [hN]
  by_cases h : m.val = k.val
  · simp [h]
  · simp [h]

/-- The choices, as the index found. -/
theorem v81_read (r : Fin 128) (m : Fin 16) (n : Fin 576) :
    res_main_v81 V0 (ix3 r m n) = (FloatOps.uitofp FTy.f32 (IntOp.cmpi CmpIPredicate.eq
        (Host.argReduce reducer_argmax_f32_i32 (res_main_v78 V0) (res_main_call4_v0 V0) (res_main_call4_cst V0)
            (res_main_call4_c V0) reducesTo_S128x16x576_S128x576_d1 h_S_ (ix2 r n)).2
        (BitVec.ofNat 32 m.val)) : Ideal .f32) := by
  unfold res_main_v81
  generalize Host.argReduce reducer_argmax_f32_i32 (res_main_v78 V0) (res_main_call4_v0 V0) (res_main_call4_cst V0)
            (res_main_call4_c V0) reducesTo_S128x16x576_S128x576_d1 h_S_ = z
  pointwise

/-- The choices. -/
theorem v81_apply (b : Fin 16) (h : Fin 8) (m : Fin 16) (n : Fin 576) :
    res_main_v81 V0 (ix3 (bh b h) m n) = pick (scores (par V0) (img V0 b) h n) m := by
  obtain ⟨k, hk⟩ := exists_wins (scores (par V0) (img V0 b) h n)
  rw [pick_of_wins hk, v81_read]
  have e := arg_apply (res_main_v78 V0) (bh b h) n k (by simpa only [v78_apply] using hk)
  exact (congrArg (β := Ideal .f32) (fun z => FloatOps.uitofp FTy.f32 (IntOp.cmpi CmpIPredicate.eq z (BitVec.ofNat 32 m.val))) e).trans (test_apply m k)

/-- The scores of the choices. -/
theorem v82_apply (b : Fin 16) (h : Fin 8) (m : Fin 16) (n : Fin 576) :
    res_main_v82 V0 (ix3 (bh b h) m n) = scores (par V0) (img V0 b) h n m * pick (scores (par V0) (img V0 b) h n) m := by
  unfold res_main_v82
  pointwise
  rw [v78_apply, v81_apply]

end Cert.ReferenceIdeal.Read

end
-- ==== Proof.RefOut.lean ====
/- The reference's result is the layer's. -/
module

public import proofs.«01_k».proof.Proof.RefScore

@[expose] public section

set_option maxRecDepth 16384

noncomputable section

namespace Cert.ReferenceIdeal.Read

open Cert.ReferenceIdeal Cert.ReferenceIdeal.Gen Cert.ReferenceIdeal.Value Idealize.ShloMosaic Cert.Cluster

variable (V0 : Valuation τ sig (Elt Ideal))

/-- The joint index of an image and a channel's head. -/
theorem bh_eq (b : Fin 16) (c : Fin 192) (p : b.val * 8 + c.val / 24 < 128) :
    (⟨b.val * 8 + c.val / 24, p⟩ : Fin 128) = bh b (hd c) := rfl

/-- A channel's place in its head. -/
theorem lo_eq (c : Fin 192) (p : c.val % 24 < 24) : (⟨c.val % 24, p⟩ : Fin 24) = lo c := rfl

/-- The tokens after the attention. -/
theorem v104_apply (b : Fin 16) (n : Fin 576) (k : Fin 384) :
    res_main_v104 V0 (ix3 b n k) = mid (par V0) (img V0 b) n k := by
  unfold res_main_v104
  pointwise
  simp only [bh_eq, lo_eq, v81_apply, v82_apply, v39_apply, patch_sum, pos_eq, pos_six, ch_hd]
  rw [← lit_1]
  unfold mid
  refine congrArg₂ (· + ·) rfl (congrArg₂ (· + ·) (Finset.sum_congr rfl fun c _ => ?_) rfl)
  exact mul_comm _ _

/-- The means of those. -/
theorem v108_apply (b : Fin 16) (n : Fin 576) : res_main_v108 V0 (ix3 b n 0) = mean (mid (par V0) (img V0 b) n) := by
  unfold res_main_v108
  pointwise
  simp only [v104_apply]
  rfl

/-- Those, centred. -/
theorem v110_apply (b : Fin 16) (n : Fin 576) (k : Fin 384) :
    res_main_v110 V0 (ix3 b n k) = mid (par V0) (img V0 b) n k - mean (mid (par V0) (img V0 b) n) := by
  unfold res_main_v110
  pointwise
  rw [v104_apply, v108_apply]

/-- The first layer of the perceptron. -/
theorem v133_apply (b : Fin 16) (n : Fin 576) (j : Fin 1536) :
    res_main_v133 V0 (ix3 b n j) = hid (par V0) (img V0 b) n j := by
  unfold res_main_v133
  pointwise
  simp only [v104_apply, v108_apply, v110_apply]
  rfl

/-- The reference's result, as its run names it. -/
def refOut : FVec Ideal S16x576x384 .f32 :=
  addf (res_main_v104 V0) (addf (Host.dotGeneral (φ₂ := .f32) dot_S16x576x1536_S1536x384_S16x576x384_2_0_01_1_n_n none (mulf (mulf (broadcastInDim S16x576x1536 ![] bcast_S_S16x576x1536 (constant S_ .f32 0x3F000000#32)) (res_main_v133 V0)) (Host.erfc (mulf (Host.negf (res_main_v133 V0)) (broadcastInDim S16x576x1536 ![] bcast_S_S16x576x1536 (constant S_ .f32 0x3F3504F3#32))))) (transpose S1536x384 [1, 0] (V0 (Proc.devRef .tc main_arg15)) transposes_S384x1536_S1536x384_1_0)) (broadcastInDim S16x576x384 ![0, 1, 2] bcast_S1x1x384_S16x576x384_0_1_2 (broadcastInDim S1x1x384 ![2] bcast_S384_S1x1x384_2 (V0 (Proc.devRef .tc main_arg16)))))

/-- It is the layer's, at an index. -/
theorem refOut_apply (b : Fin 16) (n : Fin 576) (k : Fin 384) :
    refOut V0 (ix3 b n k) = out (par V0) (img V0 b) n k := by
  unfold refOut
  pointwise
  simp only [v104_apply, v133_apply]
  rfl

/-- It is the layer of the arguments. -/
theorem refOut_eq : refOut V0 = layerOf (par V0) (V0 (Proc.devRef .tc main_arg0)) := by
  funext j
  rw [eq_ix3 j]
  exact refOut_apply V0 (j 0) (j 1) (j 2)

end Cert.ReferenceIdeal.Read

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Array
public import proofs.«01_k».proof.Proof.PreRead
public import proofs.«01_k».proof.Proof.RefOut
public import proofs.«01_k».proof.Proof.RefRun
public import Idealize.ShloMosaic.Adequacy
public import Idealize.ShloMosaic.Init

@[expose] public section

set_option maxRecDepth 16384

noncomputable section

namespace Cert.Proof

open Idealize.ShloMosaic Idealize.SL.Sem Cert.Cluster

attribute [local instance] Cert.Kernel.Gen.facts Cert.KernelIdeal.Gen.facts Cert.ReferenceIdeal.Gen.facts
  Cert.Pre_features_nondegenerate.facts

/-- Every run of the reference ends, leaves its arguments alone and leaves no semaphore raised. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two memories hold the same seventeen arguments on the device `c`. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)

section
variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)

/-- Where the memories agree, the reference's value is the layer of the kernel's arguments. -/
theorem reference_value (c : Dev Cert.KernelIdeal.nD) (h : Agree m m' c) :
    Cert.ReferenceIdeal.Read.refOut (StableHlo.launchContents m' c) = Cert.KernelIdeal.Array.result m c := by
  obtain ⟨e0, e1, e2, e3, e4, e5, e6, e7, e8, e9, e10, e11, e12, e13, e14, e15, e16⟩ := h
  rw [Cert.ReferenceIdeal.Read.refOut_eq]
  unfold Cert.KernelIdeal.Array.result
  rw [← e0, ← e1, ← e2, ← e3, ← e4, ← e5, ← e6, ← e7, ← e8, ← e9, ← e10, ← e11, ← e12, ← e13, ← e14, ← e15, ← e16]
  rfl

/-- Where the memories agree, the precondition makes every image of the kernel's arguments good. -/
theorem kernel_good (hPre : Cert.Pre_KernelIdeal_features_nondegenerate m)
    (h : ∀ c, Agree m m' c) (c : Dev Cert.KernelIdeal.nD) : Cert.KernelIdeal.Array.AllGood m c := by
  obtain ⟨e0, e1, e2, e3, e4, e5, e6, e7, e8, e9, e10, e11, e12, e13, e14, e15, e16⟩ := h c
  obtain ⟨p, q⟩ := hPre c
  exact Cert.ReferenceIdeal.Read.good_of_args (StableHlo.launchContents m' c) _ _ _ _ _ _ _ _ _ _ _ _ _ _ _ _ _
    e0 e1 e2 e3 e4 e5 e6 e7 e8 e9 e10 e11 e12 e13 e14 e15 e16 p q

end

/-- On arguments that meet the precondition the kernel and the reference leave the same result. -/
theorem same_result : Cert.algebraic_KernelIdeal_ReferenceIdeal_pre_features_nondegenerate := by
  intro m g m' g' hPre hArgs
  refine ⟨fun c => Cert.KernelIdeal.Array.result m c,
    Cert.KernelIdeal.Array.run m g (kernel_good m m' hPre hArgs), ?_⟩
  refine (θ_run Cert.ReferenceIdeal.defs _ _).mono (fun r h c => ⟨?_, (h c).2⟩)
    (Cert.ReferenceIdeal.Value.run (F := Ideal) m' g')
  exact (h c).1.trans (reference_value m m' c (hArgs c))

/-- Everything the statement claims. -/
theorem claim : Cert.Claim :=
  ⟨Cert.Kernel.Gen.facts, Cert.KernelIdeal.Gen.facts, Cert.ReferenceIdeal.Gen.facts,
    Cert.Pre_features_nondegenerate.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement Cert.KernelIdeal.κ "inv36" .f32 0x3CE38E39#32 ((1 / 36 : ℝ) : EReal) rfl,
    same_result⟩

end Cert.Proof

end
